-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_hot_below_inf [hPre_one_hot_below_inf : Cert.Pre_one_hot_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_one_hot_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_one_hot_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_one_hot_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_hot_below_inf [hPre_one_hot_below_inf : Cert.Pre_one_hot_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_hot_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_one_hot_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_one_hot_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_hot_below_inf [hKernelIdeal : Cert.KernelIdeal.Facts] [hPre_one_hot_below_inf : Cert.Pre_one_hot_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_hot_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_hot_below_inf [hReferenceIdeal : Cert.ReferenceIdeal.Facts] [hPre_one_hot_below_inf : Cert.Pre_one_hot_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_hot_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_temp" .f32 0x41200000#32 ((134217728 / 13421773 : ℝ) : EReal)

def algebraic_KernelIdeal_ReferenceIdeal_pre_one_hot_below_inf [hKernelIdeal : Cert.KernelIdeal.Facts] [hReferenceIdeal : Cert.ReferenceIdeal.Facts] [hPre_one_hot_below_inf : Cert.Pre_one_hot_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_hot_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_hot_below_inf : Cert.Pre_one_hot_below_inf.Facts),
    quiescent_Kernel (hKernel := hKernel)
    ∧ quiescent_KernelIdeal (hKernelIdeal := hKernelIdeal)
    ∧ quiescent_KernelIdeal_pre_one_hot_below_inf (hKernelIdeal := hKernelIdeal) (hPre_one_hot_below_inf := hPre_one_hot_below_inf)
    ∧ quiescent_ReferenceIdeal (hReferenceIdeal := hReferenceIdeal)
    ∧ quiescent_ReferenceIdeal_pre_one_hot_below_inf (hReferenceIdeal := hReferenceIdeal) (hPre_one_hot_below_inf := hPre_one_hot_below_inf)
    ∧ preserves_Kernel_KernelIdeal
    ∧ algebraic_KernelIdeal_ReferenceIdeal_pre_one_hot_below_inf (hKernelIdeal := hKernelIdeal) (hReferenceIdeal := hReferenceIdeal) (hPre_one_hot_below_inf := hPre_one_hot_below_inf)
-- ==== Pre_one_hot_below_inf.lean ====
abbrev S1x256x20 : Shape := ⟨3, ![1, 256, 20]⟩
abbrev S256x20 : Shape := ⟨2, ![256, 20]⟩
abbrev S_ : Shape := ⟨0, ![]⟩
abbrev S1x256 : Shape := ⟨2, ![1, 256]⟩

class Facts : Prop where
  bcast_S_S1x256x20 : S_.BroadcastsInDim S1x256x20 (![] : Fin 0 → Fin S1x256x20.rank)
  reducesTo_S1x256x20_S1x256_d2 : S1x256x20.ReducesTo [2] S1x256
  h_S_ : 0 < S_.numel
  bcast_S_S1x256 : S_.BroadcastsInDim S1x256 (![] : Fin 0 → Fin S1x256.rank)
  bcast_S_S256x20 : S_.BroadcastsInDim S256x20 (![] : Fin 0 → Fin S256x20.rank)

variable [Facts]

def fn {F : FTy → Type} [FloatOps F] (main_arg0 : FVec F S1x256x20 .f32) (main_arg1 : FVec F S256x20 .f32) : IVec S1x256x20 1 × IVec S1x256 1 × IVec S256x20 1 :=
  let main_cst : FVec F S_ .f32 := constant S_ .f32 0x00000000#32
  let main_v0 : FVec F S1x256x20 .f32 := broadcastInDim S1x256x20 ![] bcast_S_S1x256x20 main_cst
  let main_v1 : IVec S1x256x20 1 := cmpf .oeq main_arg0 main_v0
  let main_cst_0 : FVec F S_ .f32 := constant S_ .f32 0x3F800000#32
  let main_v2 : FVec F S1x256x20 .f32 := broadcastInDim S1x256x20 ![] bcast_S_S1x256x20 main_cst_0
  let main_v3 : IVec S1x256x20 1 := cmpf .oeq main_arg0 main_v2
  let main_v4 : IVec S1x256x20 1 := ori main_v1 main_v3
  let main_cst_1 : FVec F S_ .f32 := constant S_ .f32 0x00000000#32
  let main_v5 : FVec F S1x256 .f32 := (fun x v => Host.reduceAdd x v reducesTo_S1x256x20_S1x256_d2 h_S_) main_arg0 main_cst_1
  let main_cst_2 : FVec F S_ .f32 := constant S_ .f32 0x3F800000#32
  let main_v6 : FVec F S1x256 .f32 := broadcastInDim S1x256 ![] bcast_S_S1x256 main_cst_2
  let main_v7 : IVec S1x256 1 := cmpf .oeq main_v5 main_v6
  let main_cst_3 : FVec F S_ .f32 := constant S_ .f32 0x7F800000#32
  let main_v8 : FVec F S256x20 .f32 := broadcastInDim S256x20 ![] bcast_S_S256x20 main_cst_3
  let main_v9 : IVec S256x20 1 := cmpf .olt main_arg1 main_v8
  (main_v4, main_v7, main_v9)
-- ==== Kernel.lean ====
abbrev S1x256x20 : Shape := ⟨3, ![1, 256, 20]⟩
abbrev S256x20 : Shape := ⟨2, ![256, 20]⟩
abbrev S1x5120 : Shape := ⟨2, ![1, 5120]⟩
abbrev S20x256 : Shape := ⟨2, ![20, 256]⟩
abbrev S8192x256 : Shape := ⟨2, ![8192, 256]⟩
abbrev S5120 : Shape := ⟨1, ![5120]⟩
abbrev S512x256 : Shape := ⟨2, ![512, 256]⟩
abbrev S1x256 : Shape := ⟨2, ![1, 256]⟩
abbrev S512x512 : Shape := ⟨2, ![512, 512]⟩
abbrev S1x1x5120 : Shape := ⟨3, ![1, 1, 5120]⟩
abbrev S1 : Shape := ⟨1, ![1]⟩
abbrev S1x1x1 : Shape := ⟨3, ![1, 1, 1]⟩
abbrev S256 : Shape := ⟨1, ![256]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S1x256x20, .f32⟩
  | .hbm, ⟨1, _⟩ => ⟨S256x20, .f32⟩
  | .hbm, ⟨2, _⟩ => ⟨S1x5120, .f32⟩
  | .hbm, ⟨3, _⟩ => ⟨S256x20, .f32⟩
  | .hbm, ⟨4, _⟩ => ⟨S20x256, .f32⟩
  | .hbm, ⟨5, _⟩ => ⟨S8192x256, .i32⟩
  | .hbm, ⟨6, _⟩ => ⟨S1x5120, .f32⟩
  | .hbm, ⟨7, _⟩ => ⟨S5120, .f32⟩
  | .local _ .vmem, ⟨0, _⟩ => ⟨S1x5120, .f32⟩
  | .local _ .vmem, ⟨1, _⟩ => ⟨S20x256, .f32⟩
  | .local _ .vmem, ⟨2, _⟩ => ⟨S512x256, .i32⟩
  | .local _ .vmem, ⟨3, _⟩ => ⟨S512x256, .i32⟩
  | .local _ .vmem, ⟨4, _⟩ => ⟨S1x5120, .f32⟩
  | .local _ .vmem, ⟨5, _⟩ => ⟨S1x5120, .f32⟩
  | .local _ .vmem, ⟨6, _⟩ => ⟨S1x256, .i32⟩
  | .local _ .vmem, ⟨7, _⟩ => ⟨S512x512, .f32⟩
  | .local _ .vmem, ⟨8, _⟩ => ⟨S512x512, .i32⟩
  | _, _ => ⟨S1x256x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0_0 : Ref sig .tc := ⟨.hbm, 5, rfl⟩
abbrev main_call0_v3_1 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![17], ![false]⟩

def k0_cond3 (i : grid0.Coords) : BitVec 1 :=
  let arg0 : BitVec 32 := BitVec.ofNat 32 (i 0).val
  let c16_i32 : BitVec 32 := 16#32
  let v6 : BitVec 1 := Scalar.cmpi .slt arg0 c16_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_45 : BitVec 32 := 0#32
  let c3_i32_46 : BitVec 32 := 3#32
  let v198 : BitVec 32 := Scalar.addi c0_i32_45 c3_i32_46
  let c1_i32 : BitVec 32 := 1#32
  ⟨c0_i32_45, v198, c1_i32⟩
def k0_off1 (k0_t1 : Fin k0_t1_loop.trips) : Fin 2 → Nat :=
  let c0_104 : Index := 0#32
  let c1_i32_49 : BitVec 32 := 1#32
  let c0_i32_45 : BitVec 32 := 0#32
  let c1_i32 : BitVec 32 := 1#32
  let arg9 : BitVec 32 := Scf.iv c0_i32_45 c1_i32 k0_t1
  let c3_i32_48 : BitVec 32 := 3#32
  let v199 : BitVec 32 := Scalar.muli arg9 c3_i32_48
  let v200 : BitVec 32 := Scalar.addi c1_i32_49 v199
  let c512_i32_103 : BitVec 32 := 512#32
  let v371 : BitVec 32 := Scalar.muli v200 c512_i32_103
  let v372 : Index := Scalar.indexCast v371
  ![0, v372.toNat]
def k0_off2 (k0_t1 : Fin k0_t1_loop.trips) (c1_i32_105 : BitVec 32) : Fin 2 → Nat :=
  let c0_161 : Index := 0#32
  let c1_i32_49 : BitVec 32 := 1#32
  let c0_i32_45 : BitVec 32 := 0#32
  let c1_i32 : BitVec 32 := 1#32
  let arg9 : BitVec 32 := Scf.iv c0_i32_45 c1_i32 k0_t1
  let c3_i32_48 : BitVec 32 := 3#32
  let v199 : BitVec 32 := Scalar.muli arg9 c3_i32_48
  let v200 : BitVec 32 := Scalar.addi c1_i32_49 v199
  let v377 : BitVec 32 := Scalar.addi v200 c1_i32_105
  let c512_i32_160 : BitVec 32 := 512#32
  let v548 : BitVec 32 := Scalar.muli v377 c512_i32_160
  let v549 : Index := Scalar.indexCast v548
  ![0, v549.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S20x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_temp" => some ((134217728 / 13421773 : ℝ) : EReal)
  | _ => none
-- ==== ReferenceIdeal.lean ====
abbrev S1x256x20 : Shape := ⟨3, ![1, 256, 20]⟩
abbrev S256x20 : Shape := ⟨2, ![256, 20]⟩
abbrev S5120 : Shape := ⟨1, ![5120]⟩
abbrev S_ : Shape := ⟨0, ![]⟩
abbrev S1 : Shape := ⟨1, ![1]⟩
abbrev S2 : Shape := ⟨1, ![2]⟩
abbrev S1x1 : Shape := ⟨2, ![1, 1]⟩
abbrev S8192x5120 : Shape := ⟨2, ![8192, 5120]⟩
abbrev S1x5120 : Shape := ⟨2, ![1, 5120]⟩
abbrev S8192 : Shape := ⟨1, ![8192]⟩
abbrev S1x256 : Shape := ⟨2, ![1, 256]⟩
abbrev S256 : Shape := ⟨1, ![256]⟩
abbrev S1x1x1x256 : Shape := ⟨4, ![1, 1, 1, 256]⟩
abbrev S8192x1x1x256 : Shape := ⟨4, ![8192, 1, 1, 256]⟩
abbrev S8192x256 : Shape := ⟨2, ![8192, 256]⟩
abbrev S8192x1 : Shape := ⟨2, ![8192, 1]⟩
abbrev S8192x2 : Shape := ⟨2, ![8192, 2]⟩

abbrev nBuf : Space → Nat
  | .hbm => 374
  | .vmem => 0
  | .smem => 0
  | _ => 0

abbrev hbmTy0_0 (i : Nat) : BufTy := match i % 128 with
  | 0 => ⟨S1x256x20, .f32⟩
  | 1 => ⟨S256x20, .f32⟩
  | 2 => ⟨S5120, .f32⟩
  | 3 => ⟨S_, .f32⟩
  | 4 => ⟨S5120, .f32⟩
  | 5 => ⟨S5120, .f32⟩
  | 6 => ⟨S_, .f32⟩
  | 7 => ⟨S_, .f32⟩
  | 8 => ⟨S_, .f32⟩
  | 9 => ⟨S_, .f32⟩
  | 10 => ⟨S1, .f32⟩
  | 11 => ⟨S5120, .f32⟩
  | 12 => ⟨S5120, .f32⟩
  | 13 => ⟨S5120, .f32⟩
  | 14 => ⟨S_, .f32⟩
  | 15 => ⟨S_, .f32⟩
  | 16 => ⟨S1, .f32⟩
  | 17 => ⟨S5120, .f32⟩
  | 18 => ⟨S5120, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S_, .f32⟩
  | 33 => ⟨S1x1, .f32⟩
  | 34 => ⟨S1x1, .f32⟩
  | 35 => ⟨S1, .i32⟩
  | 36 => ⟨S_, .i32⟩
  | 37 => ⟨S1, .i32⟩
  | 38 => ⟨S_, .i32⟩
  | 39 => ⟨S8192x5120, .i64⟩
  | 40 => ⟨S8192x5120, .i64⟩
  | 41 => ⟨S_, .i64⟩
  | 42 => ⟨S8192x5120, .i64⟩
  | 43 => ⟨S8192x5120, .i64⟩
  | 44 => ⟨S_, .i64⟩
  | 45 => ⟨S8192x5120, .i64⟩
  | 46 => ⟨S8192x5120, .i64⟩
  | 47 => ⟨S8192x5120, .i64⟩
  | 48 => ⟨S_, .i64⟩
  | 49 => ⟨S8192x5120, .i64⟩
  | 50 => ⟨S8192x5120, .i64⟩
  | 51 => ⟨S8192x5120, .i32⟩
  | 52 => ⟨S8192x5120, .i32⟩
  | 53 => ⟨S_, .i32⟩
  | 54 => ⟨S_, .i32⟩
  | 55 => ⟨S_, .i32⟩
  | 56 => ⟨S8192x5120, .i32⟩
  | 57 => ⟨S8192x5120, .i32⟩
  | 58 => ⟨S8192x5120, .i32⟩
  | 59 => ⟨S8192x5120, .i32⟩
  | 60 => ⟨S8192x5120, .i32⟩
  | 61 => ⟨S_, .i32⟩
  | 62 => ⟨S8192x5120, .i32⟩
  | 63 => ⟨S8192x5120, .i32⟩
  | 64 => ⟨S_, .i32⟩
  | 65 => ⟨S8192x5120, .i32⟩
  | 66 => ⟨S8192x5120, .i32⟩
  | 67 => ⟨S8192x5120, .i32⟩
  | 68 => ⟨S8192x5120, .i32⟩
  | 69 => ⟨S8192x5120, .i32⟩
  | 70 => ⟨S_, .i32⟩
  | 71 => ⟨S8192x5120, .i32⟩
  | 72 => ⟨S8192x5120, .i32⟩
  | 73 => ⟨S_, .i32⟩
  | 74 => ⟨S8192x5120, .i32⟩
  | 75 => ⟨S8192x5120, .i32⟩
  | 76 => ⟨S8192x5120, .i32⟩
  | 77 => ⟨S8192x5120, .i32⟩
  | 78 => ⟨S8192x5120, .i32⟩
  | 79 => ⟨S_, .i32⟩
  | 80 => ⟨S8192x5120, .i32⟩
  | 81 => ⟨S8192x5120, .i32⟩
  | 82 => ⟨S_, .i32⟩
  | 83 => ⟨S8192x5120, .i32⟩
  | 84 => ⟨S8192x5120, .i32⟩
  | 85 => ⟨S8192x5120, .i32⟩
  | 86 => ⟨S8192x5120, .i32⟩
  | 87 => ⟨S8192x5120, .i32⟩
  | 88 => ⟨S_, .i32⟩
  | 89 => ⟨S8192x5120, .i32⟩
  | 90 => ⟨S8192x5120, .i32⟩
  | 91 => ⟨S_, .i32⟩
  | 92 => ⟨S8192x5120, .i32⟩
  | 93 => ⟨S8192x5120, .i32⟩
  | 94 => ⟨S8192x5120, .i32⟩
  | 95 => ⟨S8192x5120, .i32⟩
  | 96 => ⟨S8192x5120, .i32⟩
  | 97 => ⟨S8192x5120, .i32⟩
  | 98 => ⟨S8192x5120, .i32⟩
  | 99 => ⟨S8192x5120, .i32⟩
  | 100 => ⟨S_, .i32⟩
  | 101 => ⟨S8192x5120, .i32⟩
  | 102 => ⟨S8192x5120, .i32⟩
  | 103 => ⟨S8192x5120, .i32⟩
  | 104 => ⟨S_, .i32⟩
  | 105 => ⟨S8192x5120, .i32⟩
  | 106 => ⟨S8192x5120, .i32⟩
  | 107 => ⟨S_, .i32⟩
  | 108 => ⟨S8192x5120, .i32⟩
  | 109 => ⟨S8192x5120, .i32⟩
  | 110 => ⟨S8192x5120, .i32⟩
  | 111 => ⟨S8192x5120, .i32⟩
  | 112 => ⟨S8192x5120, .i32⟩
  | 113 => ⟨S_, .i32⟩
  | 114 => ⟨S8192x5120, .i32⟩
  | 115 => ⟨S8192x5120, .i32⟩
  | 116 => ⟨S_, .i32⟩
  | 117 => ⟨S8192x5120, .i32⟩
  | 118 => ⟨S8192x5120, .i32⟩
  | 119 => ⟨S8192x5120, .i32⟩
  | 120 => ⟨S8192x5120, .i32⟩
  | 121 => ⟨S8192x5120, .i32⟩
  | 122 => ⟨S_, .i32⟩
  | 123 => ⟨S8192x5120, .i32⟩
  | 124 => ⟨S8192x5120, .i32⟩
  | 125 => ⟨S_, .i32⟩
  | 126 => ⟨S8192x5120, .i32⟩
  | 127 => ⟨S8192x5120, .i32⟩
  | _ => ⟨S1x256x20, .f32⟩

abbrev hbmTy0_1 (i : Nat) : BufTy := match i % 128 with
  | 0 => ⟨S8192x5120, .i32⟩
  | 1 => ⟨S8192x5120, .i32⟩
  | 2 => ⟨S8192x5120, .i32⟩
  | 3 => ⟨S_, .i32⟩
  | 4 => ⟨S8192x5120, .i32⟩
  | 5 => ⟨S8192x5120, .i32⟩
  | 6 => ⟨S_, .i32⟩
  | 7 => ⟨S8192x5120, .i32⟩
  | 8 => ⟨S8192x5120, .i32⟩
  | 9 => ⟨S8192x5120, .i32⟩
  | 10 => ⟨S8192x5120, .i32⟩
  | 11 => ⟨S8192x5120, .i32⟩
  | 12 => ⟨S8192x5120, .i32⟩
  | 13 => ⟨S8192x5120, .i32⟩
  | 14 => ⟨S8192x5120, .i32⟩
  | 15 => ⟨S_, .i32⟩
  | 16 => ⟨S8192x5120, .i32⟩
  | 17 => ⟨S8192x5120, .i32⟩
  | 18 => ⟨S8192x5120, .i32⟩
  | 19 => ⟨S_, .i32⟩
  | 20 => ⟨S8192x5120, .i32⟩
  | 21 => ⟨S8192x5120, .i32⟩
  | 22 => ⟨S_, .i32⟩
  | 23 => ⟨S8192x5120, .i32⟩
  | 24 => ⟨S8192x5120, .i32⟩
  | 25 => ⟨S8192x5120, .i32⟩
  | 26 => ⟨S8192x5120, .i32⟩
  | 27 => ⟨S8192x5120, .i32⟩
  | 28 => ⟨S_, .i32⟩
  | 29 => ⟨S8192x5120, .i32⟩
  | 30 => ⟨S8192x5120, .i32⟩
  | 31 => ⟨S_, .i32⟩
  | 32 => ⟨S8192x5120, .i32⟩
  | 33 => ⟨S8192x5120, .i32⟩
  | 34 => ⟨S8192x5120, .i32⟩
  | 35 => ⟨S8192x5120, .i32⟩
  | 36 => ⟨S8192x5120, .i32⟩
  | 37 => ⟨S_, .i32⟩
  | 38 => ⟨S8192x5120, .i32⟩
  | 39 => ⟨S8192x5120, .i32⟩
  | 40 => ⟨S_, .i32⟩
  | 41 => ⟨S8192x5120, .i32⟩
  | 42 => ⟨S8192x5120, .i32⟩
  | 43 => ⟨S8192x5120, .i32⟩
  | 44 => ⟨S8192x5120, .i32⟩
  | 45 => ⟨S8192x5120, .i32⟩
  | 46 => ⟨S_, .i32⟩
  | 47 => ⟨S8192x5120, .i32⟩
  | 48 => ⟨S8192x5120, .i32⟩
  | 49 => ⟨S_, .i32⟩
  | 50 => ⟨S8192x5120, .i32⟩
  | 51 => ⟨S8192x5120, .i32⟩
  | 52 => ⟨S8192x5120, .i32⟩
  | 53 => ⟨S8192x5120, .i32⟩
  | 54 => ⟨S8192x5120, .i32⟩
  | 55 => ⟨S8192x5120, .i32⟩
  | 56 => ⟨S8192x5120, .i32⟩
  | 57 => ⟨S8192x5120, .i32⟩
  | 58 => ⟨S_, .i32⟩
  | 59 => ⟨S8192x5120, .i32⟩
  | 60 => ⟨S8192x5120, .i32⟩
  | 61 => ⟨S8192x5120, .i32⟩
  | 62 => ⟨S_, .i32⟩
  | 63 => ⟨S8192x5120, .i32⟩
  | 64 => ⟨S8192x5120, .i32⟩
  | 65 => ⟨S_, .i32⟩
  | 66 => ⟨S8192x5120, .i32⟩
  | 67 => ⟨S8192x5120, .i32⟩
  | 68 => ⟨S8192x5120, .i32⟩
  | 69 => ⟨S8192x5120, .i32⟩
  | 70 => ⟨S8192x5120, .i32⟩
  | 71 => ⟨S_, .i32⟩
  | 72 => ⟨S8192x5120, .i32⟩
  | 73 => ⟨S8192x5120, .i32⟩
  | 74 => ⟨S_, .i32⟩
  | 75 => ⟨S8192x5120, .i32⟩
  | 76 => ⟨S8192x5120, .i32⟩
  | 77 => ⟨S8192x5120, .i32⟩
  | 78 => ⟨S8192x5120, .i32⟩
  | 79 => ⟨S8192x5120, .i32⟩
  | 80 => ⟨S_, .i32⟩
  | 81 => ⟨S8192x5120, .i32⟩
  | 82 => ⟨S8192x5120, .i32⟩
  | 83 => ⟨S_, .i32⟩
  | 84 => ⟨S8192x5120, .i32⟩
  | 85 => ⟨S8192x5120, .i32⟩
  | 86 => ⟨S8192x5120, .i32⟩
  | 87 => ⟨S8192x5120, .i32⟩
  | 88 => ⟨S8192x5120, .i32⟩
  | 89 => ⟨S_, .i32⟩
  | 90 => ⟨S8192x5120, .i32⟩
  | 91 => ⟨S8192x5120, .i32⟩
  | 92 => ⟨S_, .i32⟩
  | 93 => ⟨S8192x5120, .i32⟩
  | 94 => ⟨S8192x5120, .i32⟩
  | 95 => ⟨S8192x5120, .i32⟩
  | 96 => ⟨S8192x5120, .i32⟩
  | 97 => ⟨S8192x5120, .i32⟩
  | 98 => ⟨S8192x5120, .i32⟩
  | 99 => ⟨S8192x5120, .i32⟩
  | 100 => ⟨S8192x5120, .i32⟩
  | 101 => ⟨S_, .i32⟩
  | 102 => ⟨S8192x5120, .i32⟩
  | 103 => ⟨S8192x5120, .i32⟩
  | 104 => ⟨S8192x5120, .i32⟩
  | 105 => ⟨S_, .i32⟩
  | 106 => ⟨S8192x5120, .i32⟩
  | 107 => ⟨S8192x5120, .i32⟩
  | 108 => ⟨S_, .i32⟩
  | 109 => ⟨S8192x5120, .i32⟩
  | 110 => ⟨S8192x5120, .i32⟩
  | 111 => ⟨S8192x5120, .i32⟩
  | 112 => ⟨S8192x5120, .i32⟩
  | 113 => ⟨S8192x5120, .i32⟩
  | 114 => ⟨S_, .i32⟩
  | 115 => ⟨S8192x5120, .i32⟩
  | 116 => ⟨S8192x5120, .i32⟩
  | 117 => ⟨S_, .i32⟩
  | 118 => ⟨S8192x5120, .i32⟩
  | 119 => ⟨S8192x5120, .i32⟩
  | 120 => ⟨S8192x5120, .i32⟩
  | 121 => ⟨S8192x5120, .i32⟩
  | 122 => ⟨S8192x5120, .i32⟩
  | 123 => ⟨S_, .i32⟩
  | 124 => ⟨S8192x5120, .i32⟩
  | 125 => ⟨S8192x5120, .i32⟩
  | 126 => ⟨S_, .i32⟩
  | 127 => ⟨S8192x5120, .i32⟩
  | _ => ⟨S1x256x20, .f32⟩

abbrev hbmTy0_2 (i : Nat) : BufTy := match i % 128 with
  | 0 => ⟨S8192x5120, .i32⟩
  | 1 => ⟨S8192x5120, .i32⟩
  | 2 => ⟨S8192x5120, .i32⟩
  | 3 => ⟨S8192x5120, .i32⟩
  | 4 => ⟨S_, .i32⟩
  | 5 => ⟨S8192x5120, .i32⟩
  | 6 => ⟨S8192x5120, .i32⟩
  | 7 => ⟨S_, .i32⟩
  | 8 => ⟨S8192x5120, .i32⟩
  | 9 => ⟨S8192x5120, .i32⟩
  | 10 => ⟨S8192x5120, .i32⟩
  | 11 => ⟨S8192x5120, .i32⟩
  | 12 => ⟨S8192x5120, .i32⟩
  | 13 => ⟨S8192x5120, .i32⟩
  | 14 => ⟨S8192x5120, .i32⟩
  | 15 => ⟨S8192x5120, .i32⟩
  | 16 => ⟨S_, .i32⟩
  | 17 => ⟨S8192x5120, .i32⟩
  | 18 => ⟨S8192x5120, .i32⟩
  | 19 => ⟨S8192x5120, .i32⟩
  | 20 => ⟨S_, .i32⟩
  | 21 => ⟨S8192x5120, .i32⟩
  | 22 => ⟨S8192x5120, .i32⟩
  | 23 => ⟨S_, .i32⟩
  | 24 => ⟨S8192x5120, .i32⟩
  | 25 => ⟨S8192x5120, .i32⟩
  | 26 => ⟨S8192x5120, .f32⟩
  | 27 => ⟨S_, .f32⟩
  | 28 => ⟨S8192x5120, .f32⟩
  | 29 => ⟨S8192x5120, .f32⟩
  | 30 => ⟨S1x1, .f32⟩
  | 31 => ⟨S8192x5120, .f32⟩
  | 32 => ⟨S8192x5120, .f32⟩
  | 33 => ⟨S8192x5120, .f32⟩
  | 34 => ⟨S8192x5120, .f32⟩
  | 35 => ⟨S8192x5120, .f32⟩
  | 36 => ⟨S8192x5120, .f32⟩
  | 37 => ⟨S8192x5120, .f32⟩
  | 38 => ⟨S8192x5120, .f32⟩
  | 39 => ⟨S8192x5120, .f32⟩
  | 40 => ⟨S8192x5120, .f32⟩
  | 41 => ⟨S1x5120, .f32⟩
  | 42 => ⟨S8192x5120, .f32⟩
  | 43 => ⟨S8192x5120, .f32⟩
  | 44 => ⟨S8192x5120, .i32⟩
  | 45 => ⟨S_, .f32⟩
  | 46 => ⟨S_, .i32⟩
  | 47 => ⟨S8192, .f32⟩
  | 48 => ⟨S8192, .i32⟩
  | 49 => ⟨S_, .i32⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i1⟩
  | 57 => ⟨S8192, .i32⟩
  | 58 => ⟨S8192, .i32⟩
  | 59 => ⟨S_, .i32⟩
  | 60 => ⟨S8192, .i32⟩
  | 61 => ⟨S8192, .i1⟩
  | 62 => ⟨S8192, .i1⟩
  | 63 => ⟨S_, .i32⟩
  | 64 => ⟨S8192, .i32⟩
  | 65 => ⟨S8192, .i32⟩
  | 66 => ⟨S8192, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i1⟩
  | 78 => ⟨S_, .i32⟩
  | 79 => ⟨S8192, .i32⟩
  | 80 => ⟨S8192, .i1⟩
  | 81 => ⟨S_, .i32⟩
  | 82 => ⟨S_, .i1⟩
  | 83 => ⟨S8192, .i1⟩
  | 84 => ⟨S8192, .i1⟩
  | 85 => ⟨S8192, .i1⟩
  | 86 => ⟨S8192, .i32⟩
  | 87 => ⟨S8192, .i32⟩
  | 88 => ⟨S8192, .i32⟩
  | 89 => ⟨S1x256x20, .i32⟩
  | 90 => ⟨S_, .f32⟩
  | 91 => ⟨S_, .i32⟩
  | 92 => ⟨S1x256, .f32⟩
  | 93 => ⟨S1x256, .i32⟩
  | 94 => ⟨S256, .i32⟩
  | 95 => ⟨S1x256, .i32⟩
  | 96 => ⟨S1x1x1x256, .i32⟩
  | 97 => ⟨S8192x1x1x256, .i32⟩
  | 98 => ⟨S8192x256, .i32⟩
  | 99 => ⟨S8192, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x1, .i32⟩
  | 116 => ⟨S8192x2, .i32⟩
  | 117 => ⟨S8192x256, .i32⟩
  | _ => ⟨S1x256x20, .f32⟩

abbrev hbmTy (i : Nat) : BufTy := match i / 128 with
  | 0 => hbmTy0_0 i
  | 1 => hbmTy0_1 i
  | 2 => hbmTy0_2 i
  | _ => ⟨S1x256x20, .f32⟩

abbrev bufTy : (tb : Table) → Fin (tcTables nBuf tb) → BufTy
  | .hbm, ⟨i, _⟩ => hbmTy i
  | _, _ => ⟨S1x256x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_cst_6 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_c : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_c_1 : Ref sig .tc := ⟨.hbm, 48, rfl⟩
abbrev main_call0_v15 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v19_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v19_1 : Ref sig .tc := ⟨.hbm, 274, rfl⟩
abbrev main_call0_v20 : Ref sig .tc := ⟨.hbm, 275, rfl⟩
abbrev main_call0_c_2 : Ref sig .tc := ⟨.hbm, 276, rfl⟩
abbrev main_call0_v21 : Ref sig .tc := ⟨.hbm, 277, rfl⟩
abbrev main_call0_v22 : Ref sig .tc := ⟨.hbm, 278, rfl⟩
abbrev main_call0_c_3 : Ref sig .tc := ⟨.hbm, 279, rfl⟩
abbrev main_call0_v23 : Ref sig .tc := ⟨.hbm, 280, rfl⟩
abbrev main_call0_v24 : Ref sig .tc := ⟨.hbm, 281, rfl⟩
abbrev main_call0_v25 : Ref sig .tc := ⟨.hbm, 282, rfl⟩
abbrev main_call0_cst : Ref sig .tc := ⟨.hbm, 283, rfl⟩
abbrev main_call0_v26 : Ref sig .tc := ⟨.hbm, 284, rfl⟩
abbrev main_call0_v27 : Ref sig .tc := ⟨.hbm, 285, rfl⟩
abbrev main_call0_v28 : Ref sig .tc := ⟨.hbm, 286, rfl⟩
abbrev main_call0_v29 : Ref sig .tc := ⟨.hbm, 287, rfl⟩
abbrev main_call0_v30 : Ref sig .tc := ⟨.hbm, 288, rfl⟩
abbrev main_call0_v31 : Ref sig .tc := ⟨.hbm, 289, rfl⟩
abbrev main_call0_v32 : Ref sig .tc := ⟨.hbm, 290, rfl⟩
abbrev main_call0_v33 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_v26 : Ref sig .tc := ⟨.hbm, 298, rfl⟩
abbrev main_v27 : Ref sig .tc := ⟨.hbm, 299, rfl⟩
abbrev main_call1_v0 : Ref sig .tc := ⟨.hbm, 300, rfl⟩
abbrev main_call1_cst : Ref sig .tc := ⟨.hbm, 301, rfl⟩
abbrev main_call1_c : Ref sig .tc := ⟨.hbm, 302, rfl⟩
abbrev main_call1_v1_0 : Ref sig .tc := ⟨.hbm, 303, rfl⟩
abbrev main_v28 : Ref sig .tc := ⟨.hbm, 304, rfl⟩
abbrev main_c_7 : Ref sig .tc := ⟨.hbm, 305, rfl⟩
abbrev main_call2_v0 : Ref sig .tc := ⟨.hbm, 306, rfl⟩
abbrev main_call2_v1 : Ref sig .tc := ⟨.hbm, 307, rfl⟩
abbrev main_call2_v2 : Ref sig .tc := ⟨.hbm, 308, rfl⟩
abbrev main_call2_v3 : Ref sig .tc := ⟨.hbm, 309, rfl⟩
abbrev main_call2_v4 : Ref sig .tc := ⟨.hbm, 310, rfl⟩
abbrev main_call2_v5 : Ref sig .tc := ⟨.hbm, 311, rfl⟩
abbrev main_call2_v6 : Ref sig .tc := ⟨.hbm, 312, rfl⟩
abbrev main_call2_v7 : Ref sig .tc := ⟨.hbm, 313, rfl⟩
abbrev main_call2_v8 : Ref sig .tc := ⟨.hbm, 314, rfl⟩
abbrev main_call2_c : Ref sig .tc := ⟨.hbm, 315, rfl⟩
abbrev main_call2_v9 : Ref sig .tc := ⟨.hbm, 316, rfl⟩
abbrev main_call2_v10 : Ref sig .tc := ⟨.hbm, 317, rfl⟩
abbrev main_call2_v11 : Ref sig .tc := ⟨.hbm, 318, rfl⟩
abbrev main_call2_c_0 : Ref sig .tc := ⟨.hbm, 319, rfl⟩
abbrev main_call2_v12 : Ref sig .tc := ⟨.hbm, 320, rfl⟩
abbrev main_call2_v13 : Ref sig .tc := ⟨.hbm, 321, rfl⟩
abbrev main_v29 : Ref sig .tc := ⟨.hbm, 322, rfl⟩
abbrev main_c_8 : Ref sig .tc := ⟨.hbm, 323, rfl⟩
abbrev main_call3_v0 : Ref sig .tc := ⟨.hbm, 324, rfl⟩
abbrev main_call3_c : Ref sig .tc := ⟨.hbm, 325, rfl⟩
abbrev main_call3_v1 : Ref sig .tc := ⟨.hbm, 326, rfl⟩
abbrev main_call3_c_0 : Ref sig .tc := ⟨.hbm, 327, rfl⟩
abbrev main_call3_v2 : Ref sig .tc := ⟨.hbm, 328, rfl⟩
abbrev main_call3_v3 : Ref sig .tc := ⟨.hbm, 329, rfl⟩
abbrev main_call3_v4 : Ref sig .tc := ⟨.hbm, 330, rfl⟩
abbrev main_call3_c_1 : Ref sig .tc := ⟨.hbm, 331, rfl⟩
abbrev main_call3_v5 : Ref sig .tc := ⟨.hbm, 332, rfl⟩
abbrev main_call3_v6 : Ref sig .tc := ⟨.hbm, 333, rfl⟩
abbrev main_call3_c_2 : Ref sig .tc := ⟨.hbm, 334, rfl⟩
abbrev main_call3_v7 : Ref sig .tc := ⟨.hbm, 335, rfl⟩
abbrev main_call3_v8 : Ref sig .tc := ⟨.hbm, 336, rfl⟩
abbrev main_call3_c_3 : Ref sig .tc := ⟨.hbm, 337, rfl⟩
abbrev main_call3_v9 : Ref sig .tc := ⟨.hbm, 338, rfl⟩
abbrev main_call3_v10 : Ref sig .tc := ⟨.hbm, 339, rfl⟩
abbrev main_call3_v11 : Ref sig .tc := ⟨.hbm, 340, rfl⟩
abbrev main_call3_v12 : Ref sig .tc := ⟨.hbm, 341, rfl⟩
abbrev main_call3_v13 : Ref sig .tc := ⟨.hbm, 342, rfl⟩
abbrev main_call3_v14 : Ref sig .tc := ⟨.hbm, 343, rfl⟩
abbrev main_v30 : Ref sig .tc := ⟨.hbm, 344, rfl⟩
abbrev main_call4_v0 : Ref sig .tc := ⟨.hbm, 345, rfl⟩
abbrev main_call4_cst : Ref sig .tc := ⟨.hbm, 346, rfl⟩
abbrev main_call4_c : Ref sig .tc := ⟨.hbm, 347, rfl⟩
abbrev main_call4_v1_0 : Ref sig .tc := ⟨.hbm, 348, rfl⟩
abbrev main_v31 : Ref sig .tc := ⟨.hbm, 349, rfl⟩
abbrev main_v32 : Ref sig .tc := ⟨.hbm, 350, rfl⟩
abbrev main_v33 : Ref sig .tc := ⟨.hbm, 351, rfl⟩
abbrev main_v34 : Ref sig .tc := ⟨.hbm, 352, rfl⟩
abbrev main_v35 : Ref sig .tc := ⟨.hbm, 353, rfl⟩
abbrev main_v36 : Ref sig .tc := ⟨.hbm, 354, rfl⟩
abbrev main_v37 : Ref sig .tc := ⟨.hbm, 355, rfl⟩
abbrev main_c_9 : Ref sig .tc := ⟨.hbm, 356, rfl⟩
abbrev main_v38 : Ref sig .tc := ⟨.hbm, 357, rfl⟩
abbrev main_v39 : Ref sig .tc := ⟨.hbm, 358, rfl⟩
abbrev main_c_10 : Ref sig .tc := ⟨.hbm, 359, rfl⟩
abbrev main_v40 : Ref sig .tc := ⟨.hbm, 360, rfl⟩
abbrev main_v41 : Ref sig .tc := ⟨.hbm, 361, rfl⟩
abbrev main_v42 : Ref sig .tc := ⟨.hbm, 362, rfl⟩
abbrev main_c_11 : Ref sig .tc := ⟨.hbm, 363, rfl⟩
abbrev main_v43 : Ref sig .tc := ⟨.hbm, 364, rfl⟩
abbrev main_v44 : Ref sig .tc := ⟨.hbm, 365, rfl⟩
abbrev main_c_12 : Ref sig .tc := ⟨.hbm, 366, rfl⟩
abbrev main_v45 : Ref sig .tc := ⟨.hbm, 367, rfl⟩
abbrev main_v46 : Ref sig .tc := ⟨.hbm, 368, rfl⟩
abbrev main_v47 : Ref sig .tc := ⟨.hbm, 369, rfl⟩
abbrev main_v48 : Ref sig .tc := ⟨.hbm, 370, rfl⟩
abbrev main_v49 : Ref sig .tc := ⟨.hbm, 371, rfl⟩
abbrev main_v50 : Ref sig .tc := ⟨.hbm, 372, rfl⟩
abbrev main_v51 : Ref sig .tc := ⟨.hbm, 373, rfl⟩

abbrev nD : Nat := 1
abbrev τ : Topo := Topo.v7x

variable {F : FTy → Type} [FloatOps F]
-- ==== Proof.KTrip.lean ====
module

public import proofs.«01_k».proof.Proof.Gen.KernelIdeal.Loops
public import Idealize.ShloMosaic.Lib.VecWindow
public import proofs.«01_k».proof.Proof.Gen.KernelIdeal.Frame

/-! One trip of the kernel's loop: the race values of its three chunks, and the accumulators trip by trip. -/

@[expose] public section

noncomputable section

namespace Cert.KernelIdeal.KV

open Idealize.ShloMosaic Idealize.ShloMosaic.TcCoe Idealize.ShloMosaic.Tactic
open Cert.KernelIdeal Cert.KernelIdeal.Gen

variable {F : FTy → Type} [FloatOps F] [Named F]

/-- The zero offsets, written as a list, are zero everywhere. -/
theorem hz : (![0, 0] : Fin 2 → Nat) = fun _ => 0 := funext fun a => by fin_cases a <;> rfl

/-- The first chunk number of trip `k`: `1 + 3 k`, as the kernel computes it. -/
def jOf (k : Fin k0_t1_loop.trips) : BitVec 32 := Scalar.addi 1#32 (Scalar.muli (Scf.iv 0#32 1#32 k) 3#32)

/-- The race values of a trip's first chunk, from the counter words and the chunk of `nw`. -/
def val1 (pre : IVec S512x512 32) (k : Fin k0_t1_loop.trips) (ch : Vec F S1x512 .f32) : FVec F S512x512 .f32 :=
  let a := k0_pay23 pre 0#32 1#32 k
  let b := k0_pay24 pre 0#32 1#32 k
  let c := k0_pay35 a b
  let d := k0_pay36 a b
  k0_pay48 (k0_pay45 c d) (k0_pay46 c d) (k0_pay47 c d) ch

/-- The race values of a trip's second chunk. -/
def val2 (pre : IVec S512x512 32) (k : Fin k0_t1_loop.trips) (ch : Vec F S1x512 .f32) : FVec F S512x512 .f32 :=
  let j := Scalar.addi (jOf k) 1#32
  let a := k0_pay59 pre j 512#32
  let b := k0_pay60 pre j 512#32
  let c := k0_pay61 pre j 512#32
  let d := k0_pay73 a b c
  let e := k0_pay74 a b c
  let f := k0_pay75 a b c
  k0_pay88 (k0_pay86 d e f) (k0_pay87 d e f) ch

/-- The words of a trip's third chunk that the last part of the generator starts from. -/
def words3 (pre : IVec S512x512 32) (k : Fin k0_t1_loop.trips) : IVec S512x512 32 × IVec S512x512 32 × IVec S512x512 32 :=
  let a := k0_pay89 pre (jOf k)
  let b := k0_pay90 pre (jOf k)
  let c := k0_pay101 a b
  let d := k0_pay102 a b
  let e := k0_pay103 a b
  let f := k0_pay114 c d e
  let g := k0_pay115 c d e
  (k0_pay127 f g 45#32, k0_pay128 f g 45#32, k0_pay129 f g 45#32)

/-- The least of a trip's three race values, lane by lane. -/
def tripBest (pre : IVec S512x512 32) (k : Fin k0_t1_loop.trips) (c1 c2 c3 : Vec F S1x512 .f32) : FVec F S512x512 .f32 :=
  k0_pay132 (val1 pre k c1) (val2 pre k c2) (words3 pre k).1 (words3 pre k).2.1 (words3 pre k).2.2 c3

/-- The chunk number at which that least value is first reached. -/
def tripJ (pre : IVec S512x512 32) (k : Fin k0_t1_loop.trips) (c1 c2 c3 : Vec F S1x512 .f32) : IVec S512x512 32 :=
  k0_pay133 (jOf k) (val1 pre k c1) (val2 pre k c2) (words3 pre k).1 (words3 pre k).2.1 (words3 pre k).2.2 c3

variable (𝒱 : Variants) (c : Dev nD) (bd : Option 𝒱.V) (i : grid0.Coords) (arg1 : Memref sig .tc .vmem S1x5120 .f32) (harg1 : arg1.IsWhole) (arg2 : Memref sig .tc .vmem S20x256 .f32) (harg2 : arg2.IsWhole) (arg3 : Memref sig .tc .vmem S512x256 .i32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x256 .i32) (harg6 : arg6.IsWhole) (arg7 : Memref sig .tc .vmem S512x512 .f32) (harg7 : arg7.IsWhole) (arg8 : Memref sig .tc .vmem S512x512 .i32) (harg8 : arg8.IsWhole) (h3 : k0_cond3 i = 1#1)

/-- The chunk of 512 lanes of a row buffer at an offset. -/
def chunkAt (nw : Vec F S1x5120 .f32) (off : Fin 2 → Nat) (h : ∀ a, off a + S1x512.size a ≤ S1x5120.size a) : Vec F S1x512 .f32 :=
  View.ld nw (Rect.unit (s := S1x5120) off S1x512.size h)

/-- The trip's least value, its three chunks read off `nw`. -/
def bestAt (i : grid0.Coords) (h3 : k0_cond3 i = 1#1) (pre : IVec S512x512 32) (nw : Vec F S1x5120 .f32) (k : Fin k0_t1_loop.trips) : FVec F S512x512 .f32 :=
  tripBest pre k (chunkAt nw (k0_off1 k) (k0_off1_inb i k h3)) (chunkAt nw (k0_off2 k 1#32) (k0_off2_inb i k h3 0))
    (chunkAt nw (k0_off2 k 2#32) (k0_off2_inb i k h3 1))

/-- The chunk number of the trip's least value. -/
def jAt (i : grid0.Coords) (h3 : k0_cond3 i = 1#1) (pre : IVec S512x512 32) (nw : Vec F S1x5120 .f32) (k : Fin k0_t1_loop.trips) : IVec S512x512 32 :=
  tripJ pre k (chunkAt nw (k0_off1 k) (k0_off1_inb i k h3)) (chunkAt nw (k0_off2 k 1#32) (k0_off2_inb i k h3 0))
    (chunkAt nw (k0_off2 k 2#32) (k0_off2_inb i k h3 1))

/-- What trip `k` leaves in the buffer of least values. -/
theorem trip_read7 (pre : IVec S512x512 32) (X : BufTy.Contents (Elt F) arg5.view.ty) (k : Fin k0_t1_loop.trips)
    (f7 : BufTy.Contents (Elt F) arg7.view.ty) (f8 : BufTy.Contents (Elt F) arg8.view.ty) :
    arg7.view.read (Elt F) (arg7.view.writes (Elt F) f7 (tripL_k0_t1 𝒱 c bd i arg1 harg1 arg2 harg2 arg3 harg3 arg4 harg4 arg5 harg5 arg6 harg6 arg7 harg7 arg8 harg8 h3 pre X k f7 f8).1)
      = k0_pay8 (bestAt i h3 pre (arg5.view.read (Elt F) X) k) (arg7.view.read (Elt F) f7) := by
  unfold tripL_k0_t1 trip_k0_t1
  dsimp only
  refine (View.read_writes_full arg7.view f7 inb_S512x512_S512x512_0_0 _ []).trans ?_
  rw [View.readAt_full]
  rfl

/-- What trip `k` leaves in the buffer of chunk numbers. -/
theorem trip_read8 (pre : IVec S512x512 32) (X : BufTy.Contents (Elt F) arg5.view.ty) (k : Fin k0_t1_loop.trips)
    (f7 : BufTy.Contents (Elt F) arg7.view.ty) (f8 : BufTy.Contents (Elt F) arg8.view.ty) :
    arg8.view.read (Elt F) (arg8.view.writes (Elt F) f8 (tripL_k0_t1 𝒱 c bd i arg1 harg1 arg2 harg2 arg3 harg3 arg4 harg4 arg5 harg5 arg6 harg6 arg7 harg7 arg8 harg8 h3 pre X k f7 f8).2)
      = k0_pay9 (bestAt i h3 pre (arg5.view.read (Elt F) X) k) (jAt i h3 pre (arg5.view.read (Elt F) X) k)
          (arg7.view.read (Elt F) f7) (arg8.view.read (Elt F) f8) := by
  unfold tripL_k0_t1 trip_k0_t1
  dsimp only
  refine (View.read_writes_full arg8.view f8 inb_S512x512_S512x512_0_0 _ []).trans ?_
  rw [View.readAt_full, View.readAt_full]
  rfl

/-- The least values and their chunk numbers before trip `n`, from those at loop entry. -/
def accs (i : grid0.Coords) (h3 : k0_cond3 i = 1#1) (pre : IVec S512x512 32) (nw : Vec F S1x5120 .f32) (M0 : FVec F S512x512 .f32)
    (J0 : IVec S512x512 32) : ℕ → FVec F S512x512 .f32 × IVec S512x512 32
  | 0 => (M0, J0)
  | n + 1 => if h : n < k0_t1_loop.trips then
      (k0_pay8 (bestAt i h3 pre nw ⟨n, h⟩) (accs i h3 pre nw M0 J0 n).1,
        k0_pay9 (bestAt i h3 pre nw ⟨n, h⟩) (jAt i h3 pre nw ⟨n, h⟩) (accs i h3 pre nw M0 J0 n).1 (accs i h3 pre nw M0 J0 n).2)
    else accs i h3 pre nw M0 J0 n

/-- One more trip's accumulators, from those before it. -/
theorem accs_succ (i : grid0.Coords) (h3 : k0_cond3 i = 1#1) (pre : IVec S512x512 32) (nw : Vec F S1x5120 .f32) (M0 : FVec F S512x512 .f32)
    (J0 : IVec S512x512 32) (n : ℕ) (h : n < k0_t1_loop.trips) :
    accs i h3 pre nw M0 J0 (n + 1) = (k0_pay8 (bestAt i h3 pre nw ⟨n, h⟩) (accs i h3 pre nw M0 J0 n).1,
        k0_pay9 (bestAt i h3 pre nw ⟨n, h⟩) (jAt i h3 pre nw ⟨n, h⟩) (accs i h3 pre nw M0 J0 n).1 (accs i h3 pre nw M0 J0 n).2) :=
  dif_pos h

/-- The two accumulators, read back before trip `n`, are `accs`. -/
theorem loop_read (pre : IVec S512x512 32) (X : BufTy.Contents (Elt F) arg5.view.ty)
    (G7 : BufTy.Contents (Elt F) arg7.view.ty) (G8 : BufTy.Contents (Elt F) arg8.view.ty) : ∀ n, n ≤ k0_t1_loop.trips →
    arg7.view.read (Elt F) (arg7.view.writes (Elt F) G7 (pb_k0_t1 𝒱 c bd i arg1 harg1 arg2 harg2 arg3 harg3 arg4 harg4 arg5 harg5 arg6 harg6 arg7 harg7 arg8 harg8 h3 pre X G7 G8 n).1)
        = (accs i h3 pre (arg5.view.read (Elt F) X) (arg7.view.read (Elt F) G7) (arg8.view.read (Elt F) G8) n).1
    ∧ arg8.view.read (Elt F) (arg8.view.writes (Elt F) G8 (pb_k0_t1 𝒱 c bd i arg1 harg1 arg2 harg2 arg3 harg3 arg4 harg4 arg5 harg5 arg6 harg6 arg7 harg7 arg8 harg8 h3 pre X G7 G8 n).2)
        = (accs i h3 pre (arg5.view.read (Elt F) X) (arg7.view.read (Elt F) G7) (arg8.view.read (Elt F) G8) n).2
  | 0, _ => ⟨rfl, rfl⟩
  | n + 1, hn => by
    have ih := loop_read pre X G7 G8 n (Nat.le_of_succ_le hn)
    have h : n < k0_t1_loop.trips := hn
    rw [show n + 1 = (⟨n, h⟩ : Fin k0_t1_loop.trips).val + 1 from rfl, pb_k0_t1_succ]
    dsimp only
    rw [View.writes_append, View.writes_append, trip_read7, trip_read8, ih.1, ih.2]
    rw [accs_succ _ _ _ _ _ _ n h]
    exact ⟨rfl, rfl⟩

/-- The least values after the first chunk: its race values. -/
def first (i : grid0.Coords) (nw : Vec F S1x5120 .f32) : FVec F S512x512 .f32 :=
  let g : BitVec 32 := BitVec.ofNat 32 (i 0).val
  let a := k0_pay155 (k0_pay142 g) (k0_pay143 g) (k0_pay144 g)
  let b := k0_pay156 (k0_pay142 g) (k0_pay143 g) (k0_pay144 g)
  let d := k0_pay157 (k0_pay142 g) (k0_pay143 g) (k0_pay144 g)
  k0_pay6 (k0_pay170 (F := F) (k0_pay168 a b d) (k0_pay169 a b d) 466689012#32)
    (k0_pay171 (chunkAt nw ![0, 0] inb_S1x5120_S1x512_0_0))

/-- The least values and chunk numbers of a step's block of rows: the first chunk, then the loop's three trips. -/
def race (i : grid0.Coords) (h3 : k0_cond3 i = 1#1) (nw : Vec F S1x5120 .f32) : FVec F S512x512 .f32 × IVec S512x512 32 :=
  accs i h3 (k0_pay134 (BitVec.ofNat 32 (i 0).val)) nw (first i nw) k0_pay7 k0_t1_loop.trips

/-- A step's block of the result, from the previous step's race and the tokens. -/
def outOf (r : FVec F S512x512 .f32 × IVec S512x512 32) (tok : IVec S1x256 32) : IVec S512x256 32 :=
  k0_pay5 (F := F) (k0_pay12 (F := F) r.1 r.2) (k0_pay13 (F := F) r.1 r.2) tok

end Cert.KernelIdeal.KV

end
-- ==== Proof.KRun.lean ====
module

public import proofs.«01_k».proof.Proof.KTrip
public import proofs.«01_k».proof.Proof.Gen.KernelIdeal.Points

/-! One run of the kernel's body, branch by branch: what it leaves in each buffer. -/

@[expose] public section

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords) (arg1 : Memref sig .tc .vmem S1x5120 .f32) (harg1 : arg1.IsWhole) (arg2 : Memref sig .tc .vmem S20x256 .f32) (harg2 : arg2.IsWhole) (arg3 : Memref sig .tc .vmem S512x256 .i32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x256 .i32) (harg6 : arg6.IsWhole) (arg7 : Memref sig .tc .vmem S512x512 .f32) (harg7 : arg7.IsWhole) (arg8 : Memref sig .tc .vmem S512x512 .i32) (harg8 : arg8.IsWhole)

/-- The resources of one run of the body: the four windows' buffers and the four scratches, each at named contents. -/
abbrev held (x0 : Vec F S1x5120 .f32) (x1 : Vec F S20x256 .f32) (x2 : IVec S512x256 32) (x3 : Vec F S1x5120 .f32)
    (nw : Vec F S1x5120 .f32) (tok : IVec S1x256 32) (r : FVec F S512x512 .f32 × IVec S512x512 32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare nw ∗ owns (c : Thread nD τ) arg6 fullShare tok
    ∗ owns (c : Thread nD τ) arg7 fullShare r.1 ∗ owns (c : Thread nD τ) arg8 fullShare r.2)

set_option maxHeartbeats 1000000 in
/-- The first point: the body computes the probabilities, the negated weights, the tokens and the first race. -/
theorem runA (hc0 : k0_cond1 i = 1#1) (hc1 : ¬k0_cond2 i = 1#1) (hc2 : k0_cond3 i = 1#1)
    (x0 : Vec F S1x5120 .f32) (x1 : Vec F S20x256 .f32) (x2 : IVec S512x256 32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (held c arg1 arg2 arg3 arg4 arg5 arg6 arg7 arg8 x0 x1 x2 (k0_pay2 x0) (k0_pay3 x0) (k0_pay4 x1) (race i hc2 (k0_pay3 x0)) -∗ K ⟨⟩))
      ⊢ wp frame (wpE (defs₀ (F := F)) Variants.none c none) E (cc0__sampler_kernel i arg1 harg1 arg2 harg2 arg3 harg3 arg4 harg4 arg5 harg5 arg6 harg6 arg7 harg7 arg8 harg8) K := by
  simp only [cc0__sampler_kernel_eq_skeleton]; unfold cc0__sampler_kernel_skel
  simp only [k0_part14_eq_skeleton, k0_part15_eq_skeleton, k0_part16_eq_skeleton, k0_part17_eq_skeleton]
  unfold held owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  have e5 : arg5.view.read (Elt F) (arg5.view.writes (Elt F) arg5.view.junk (runA.sl.HS0_1 c arg1 harg1 x0)) = k0_pay3 x0 := by
    refine (View.read_writes_full arg5.view _ inb_S1x5120_S1x5120_0_0 _ []).trans ?_
    rw [View.readAt_full, harg1.read_unread]
  have e7 : arg7.view.read (Elt F) (arg7.view.writes (Elt F) arg7.view.junk (runA.sl.HS2_1 c i arg1 harg1 arg5 x0)) = first i (k0_pay3 x0) := by
    refine (View.read_writes_full arg7.view _ inb_S512x512_S512x512_0_0 _ []).trans ?_
    rw [← e5]; rfl
  have e8 : arg8.view.read (Elt F) (arg8.view.writes (Elt F) arg8.view.junk (runA.sl.HS3_1 (F := F))) = k0_pay7 :=
    View.read_writes_full arg8.view _ inb_S512x512_S512x512_0_0 _ []
  have hl := loop_read (F := F) Variants.none c none i arg1 harg1 arg2 harg2 arg3 harg3 arg4 harg4 arg5 harg5 arg6 harg6 arg7 harg7 arg8 harg8 hc2
    (runA.sl.r i) (arg5.view.writes (Elt F) arg5.view.junk (runA.sl.HS0_1 c arg1 harg1 x0))
    (arg7.view.writes (Elt F) arg7.view.junk (runA.sl.HS2_1 c i arg1 harg1 arg5 x0))
    (arg8.view.writes (Elt F) arg8.view.junk (runA.sl.HS3_1 (F := F))) _ le_rfl
  rw [e5, e7, e8] at hl
  isplitl [H3]
  · iexists _; isplitr; swap; · iexact H3
    ipureintro
    refine (View.read_writes_full arg4.view _ inb_S1x5120_S1x5120_0_0 _ []).trans ?_
    rw [View.readAt_full, harg1.read_unread]
  isplitl [HS0]
  · iexists _; isplitr; swap; · iexact HS0
    ipureintro; exact e5
  isplitl [HS1]
  · iexists _; isplitr; swap; · iexact HS1
    ipureintro
    refine (View.read_writes_full arg6.view _ inb_S1x256_S1x256_0_0 _ []).trans ?_
    rw [View.readAt_full, harg2.read_unread]
  isplitl [HS2]
  · iexists _; isplitr; swap; · iexact HS2
    ipureintro; rw [View.writes_append]; exact hl.1
  iexists _; isplitr; swap; · iexact HS3
  ipureintro; rw [View.writes_append]; exact hl.2

set_option maxHeartbeats 1000000 in
/-- A later point before the last: the body writes the previous race's block of the result and runs its own race. -/
theorem runB (hc0 : ¬k0_cond1 i = 1#1) (hc1 : k0_cond2 i = 1#1) (hc2 : k0_cond3 i = 1#1)
    (x0 : Vec F S1x5120 .f32) (x1 : Vec F S20x256 .f32) (x3 nw : Vec F S1x5120 .f32) (tok : IVec S1x256 32)
    (r : FVec F S512x512 .f32 × IVec S512x512 32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare x3 ∗ owns (c : Thread nD τ) arg5 fullShare nw ∗ owns (c : Thread nD τ) arg6 fullShare tok
        ∗ owns (c : Thread nD τ) arg7 fullShare r.1 ∗ owns (c : Thread nD τ) arg8 fullShare r.2
        ∗ (held c arg1 arg2 arg3 arg4 arg5 arg6 arg7 arg8 x0 x1 (outOf r tok) x3 nw tok (race i hc2 nw) -∗ K ⟨⟩))
      ⊢ wp frame (wpE (defs₀ (F := F)) Variants.none c none) E (cc0__sampler_kernel i arg1 harg1 arg2 harg2 arg3 harg3 arg4 harg4 arg5 harg5 arg6 harg6 arg7 harg7 arg8 harg8) K := by
  simp only [cc0__sampler_kernel_eq_skeleton]; unfold cc0__sampler_kernel_skel
  simp only [k0_part1_eq_skeleton, k0_part14_eq_skeleton, k0_part15_eq_skeleton, k0_part16_eq_skeleton, k0_part17_eq_skeleton]
  unfold held owns
  iintro ⟨⟨%f0, %hf0, H0⟩, ⟨%f1, %hf1, H1⟩, ⟨%d2, %f2, -, H2⟩, ⟨%f3, %hf3, H3⟩, ⟨%fs0, %hs0, HS0⟩, ⟨%fs1, %hs1, HS1⟩, ⟨%fs2, %hs2, HS2⟩, ⟨%fs3, %hs3, HS3⟩, Hk⟩
  obtain rfl := harg1.eq_unread hf0; obtain rfl := harg2.eq_unread hf1; obtain rfl := harg4.eq_unread hf3
  obtain rfl := harg5.eq_unread hs0; obtain rfl := harg6.eq_unread hs1; obtain rfl := harg7.eq_unread hs2; obtain rfl := harg8.eq_unread hs3
  sl_exec (disch := first | sl_exact hc0 | sl_exact hc1 | sl_exact hc2)
  sl_step
  iapply Hk
  have r6 : arg6.view.readAt (Elt F) (Rect.unit (s := S1x256) ![0, 0] S1x256.size inb_S1x256_S1x256_0_0).toLoadRect (harg6.unread tok) = tok := by
    rw [View.readAt_full, harg6.read_unread]
  have r7 : arg7.view.readAt (Elt F) (Rect.unit (s := S512x512) ![0, 0] S512x512.size inb_S512x512_S512x512_0_0).toLoadRect (harg7.unread r.1) = r.1 := by
    rw [View.readAt_full, harg7.read_unread]
  have r8 : arg8.view.readAt (Elt F) (Rect.unit (s := S512x512) ![0, 0] S512x512.size inb_S512x512_S512x512_0_0).toLoadRect (harg8.unread r.2) = r.2 := by
    rw [View.readAt_full, harg8.read_unread]
  have e5 : arg5.view.read (Elt F) (harg5.unread nw) = nw := harg5.read_unread _
  have e7 : arg7.view.read (Elt F) (arg7.view.writes (Elt F) arg7.view.junk (runB.sl.HS2_1 c i arg5 harg5 nw)) = first i nw := by
    refine (View.read_writes_full arg7.view _ inb_S512x512_S512x512_0_0 _ []).trans ?_
    conv_rhs => rw [← e5]
    rfl
  have e8 : arg8.view.read (Elt F) (arg8.view.writes (Elt F) arg8.view.junk (runB.sl.HS3_1 (F := F))) = k0_pay7 :=
    View.read_writes_full arg8.view _ inb_S512x512_S512x512_0_0 _ []
  have hl := loop_read (F := F) Variants.none c none i arg1 harg1 arg2 harg2 arg3 harg3 arg4 harg4 arg5 harg5 arg6 harg6 arg7 harg7 arg8 harg8 hc2
    (runB.sl.r_2 i) (harg5.unread nw) (arg7.view.writes (Elt F) arg7.view.junk (runB.sl.HS2_1 c i arg5 harg5 nw))
    (arg8.view.writes (Elt F) arg8.view.junk (runB.sl.HS3_1 (F := F))) _ le_rfl
  rw [e5, e7, e8] at hl
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full arg3.view _ inb_S512x256_S512x256_0_0 _ []).trans ?_
    show k0_pay5 (k0_pay12 (arg7.view.readAt (Elt F) (Rect.unit (s := S512x512) ![0, 0] S512x512.size inb_S512x512_S512x512_0_0).toLoadRect (harg7.unread r.1)) (arg8.view.readAt (Elt F) (Rect.unit (s := S512x512) ![0, 0] S512x512.size inb_S512x512_S512x512_0_0).toLoadRect (harg8.unread r.2)))
      (k0_pay13 (arg7.view.readAt (Elt F) (Rect.unit (s := S512x512) ![0, 0] S512x512.size inb_S512x512_S512x512_0_0).toLoadRect (harg7.unread r.1)) (arg8.view.readAt (Elt F) (Rect.unit (s := S512x512) ![0, 0] S512x512.size inb_S512x512_S512x512_0_0).toLoadRect (harg8.unread r.2)))
      (arg6.view.readAt (Elt F) (Rect.unit (s := S1x256) ![0, 0] S1x256.size inb_S1x256_S1x256_0_0).toLoadRect (harg6.unread tok)) = outOf r tok
    rw [r6, r7, r8]; rfl
  isplitl [H3]
  · iexists _; isplitr; · ipureintro; exact harg4.read_unread _
    iexact H3
  isplitl [HS0]
  · iexists _; isplitr; · ipureintro; exact harg5.read_unread _
    iexact HS0
  isplitl [HS1]
  · iexists _; isplitr; · ipureintro; exact harg6.read_unread _
    iexact HS1
  isplitl [HS2]
  · iexists _; isplitr; swap; · iexact HS2
    ipureintro; rw [View.writes_append]; exact hl.1
  iexists _; isplitr; swap; · iexact HS3
  ipureintro; rw [View.writes_append]; exact hl.2

set_option maxHeartbeats 1000000 in
/-- The last point: the body writes the previous race's block of the result and runs none. -/
theorem runC (hc0 : ¬k0_cond1 i = 1#1) (hc1 : k0_cond2 i = 1#1) (hc2 : ¬k0_cond3 i = 1#1)
    (x0 : Vec F S1x5120 .f32) (x1 : Vec F S20x256 .f32) (x3 nw : Vec F S1x5120 .f32) (tok : IVec S1x256 32)
    (r : FVec F S512x512 .f32 × IVec S512x512 32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare x3 ∗ owns (c : Thread nD τ) arg5 fullShare nw ∗ owns (c : Thread nD τ) arg6 fullShare tok
        ∗ owns (c : Thread nD τ) arg7 fullShare r.1 ∗ owns (c : Thread nD τ) arg8 fullShare r.2
        ∗ (held c arg1 arg2 arg3 arg4 arg5 arg6 arg7 arg8 x0 x1 (outOf r tok) x3 nw tok r -∗ K ⟨⟩))
      ⊢ wp frame (wpE (defs₀ (F := F)) Variants.none c none) E (cc0__sampler_kernel i arg1 harg1 arg2 harg2 arg3 harg3 arg4 harg4 arg5 harg5 arg6 harg6 arg7 harg7 arg8 harg8) K := by
  simp only [cc0__sampler_kernel_eq_skeleton]; unfold cc0__sampler_kernel_skel
  simp only [k0_part1_eq_skeleton]
  unfold held owns
  iintro ⟨⟨%f0, %hf0, H0⟩, ⟨%f1, %hf1, H1⟩, ⟨%d2, %f2, -, H2⟩, ⟨%f3, %hf3, H3⟩, ⟨%fs0, %hs0, HS0⟩, ⟨%fs1, %hs1, HS1⟩, ⟨%fs2, %hs2, HS2⟩, ⟨%fs3, %hs3, HS3⟩, Hk⟩
  obtain rfl := harg1.eq_unread hf0; obtain rfl := harg2.eq_unread hf1; obtain rfl := harg4.eq_unread hf3
  obtain rfl := harg5.eq_unread hs0; obtain rfl := harg6.eq_unread hs1; obtain rfl := harg7.eq_unread hs2; obtain rfl := harg8.eq_unread hs3
  sl_exec (disch := first | sl_exact hc0 | sl_exact hc1 | sl_exact hc2)
  sl_step
  iapply Hk
  have r6 : arg6.view.readAt (Elt F) (Rect.unit (s := S1x256) ![0, 0] S1x256.size inb_S1x256_S1x256_0_0).toLoadRect (harg6.unread tok) = tok := by
    rw [View.readAt_full, harg6.read_unread]
  have r7 : arg7.view.readAt (Elt F) (Rect.unit (s := S512x512) ![0, 0] S512x512.size inb_S512x512_S512x512_0_0).toLoadRect (harg7.unread r.1) = r.1 := by
    rw [View.readAt_full, harg7.read_unread]
  have r8 : arg8.view.readAt (Elt F) (Rect.unit (s := S512x512) ![0, 0] S512x512.size inb_S512x512_S512x512_0_0).toLoadRect (harg8.unread r.2) = r.2 := by
    rw [View.readAt_full, harg8.read_unread]
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full arg3.view _ inb_S512x256_S512x256_0_0 _ []).trans ?_
    show k0_pay5 (k0_pay12 (arg7.view.readAt (Elt F) (Rect.unit (s := S512x512) ![0, 0] S512x512.size inb_S512x512_S512x512_0_0).toLoadRect (harg7.unread r.1)) (arg8.view.readAt (Elt F) (Rect.unit (s := S512x512) ![0, 0] S512x512.size inb_S512x512_S512x512_0_0).toLoadRect (harg8.unread r.2)))
      (k0_pay13 (arg7.view.readAt (Elt F) (Rect.unit (s := S512x512) ![0, 0] S512x512.size inb_S512x512_S512x512_0_0).toLoadRect (harg7.unread r.1)) (arg8.view.readAt (Elt F) (Rect.unit (s := S512x512) ![0, 0] S512x512.size inb_S512x512_S512x512_0_0).toLoadRect (harg8.unread r.2)))
      (arg6.view.readAt (Elt F) (Rect.unit (s := S1x256) ![0, 0] S1x256.size inb_S1x256_S1x256_0_0).toLoadRect (harg6.unread tok)) = outOf r tok
    rw [r6, r7, r8]; rfl
  isplitl [H3]
  · iexists _; isplitr; · ipureintro; exact harg4.read_unread _
    iexact H3
  isplitl [HS0]
  · iexists _; isplitr; · ipureintro; exact harg5.read_unread _
    iexact HS0
  isplitl [HS1]
  · iexists _; isplitr; · ipureintro; exact harg6.read_unread _
    iexact HS1
  isplitl [HS2]
  · iexists _; isplitr; · ipureintro; exact harg7.read_unread _
    iexact HS2
  iexists _; isplitr; · ipureintro; exact harg8.read_unread _
  iexact HS3

end Cert.KernelIdeal.KV

end
-- ==== Proof.KData.lean ====
module

public import proofs.«01_k».proof.Proof.KRun
public import Idealize.ShloMosaic.Lib.Pipeline.TableIdle
public import Idealize.ShloMosaic.Lib.Claim

/-! The race kernel's launch with every buffer named: what the scratches and the two outputs hold after each grid
point, the body's obligation at each point, and the run of the whole program to the named final arrays. -/

@[expose] public section

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first branch runs at the first point only. -/
theorem at_first : ∀ t : Fin cfg0.N, k0_cond1 (grid0.coords t) = 1#1 ↔ t.val = 0 :=
  (by decide +kernel : ∀ t : Fin grid0.N, k0_cond1 (grid0.coords t) = 1#1 ↔ t.val = 0)
/-- The second branch runs at every later point. -/
theorem at_later : ∀ t : Fin cfg0.N, k0_cond2 (grid0.coords t) = 1#1 ↔ t.val ≠ 0 :=
  (by decide +kernel : ∀ t : Fin grid0.N, k0_cond2 (grid0.coords t) = 1#1 ↔ t.val ≠ 0)
/-- The third branch runs at every point but the last. -/
theorem at_race : ∀ t : Fin cfg0.N, k0_cond3 (grid0.coords t) = 1#1 ↔ t.val < 16 :=
  (by decide +kernel : ∀ t : Fin grid0.N, k0_cond3 (grid0.coords t) = 1#1 ↔ t.val < 16)

/-- The points of the grid are 17. -/
theorem points : cfg0.N = 17 := N_0

/-- The first point. -/
abbrev p0 : Fin cfg0.N := ⟨0, by rw [points]; decide⟩
/-- The point whose race the scratches hold after point `n`: `n` itself, or 15 at the last. -/
abbrev rp (n : ℕ) : Fin cfg0.N := ⟨min n 15, by rw [points]; omega⟩

/-- The negated race weights, one per column, computed at the first point. -/
def nwOf (c : Dev nD) : Vec F S1x5120 .f32 := k0_pay3 (iblk m c 0 p0)
/-- The token of every position, computed at the first point. -/
def tokOf (c : Dev nD) : IVec S1x256 32 := k0_pay4 (iblk m c 1 p0)
/-- The lanes' best arrival times and chunks after point `n`. -/
def raceAt (c : Dev nD) (n : ℕ) : FVec F S512x512 .f32 × IVec S512x512 32 :=
  race (grid0.coords (rp n)) ((at_race (rp n)).mpr (Nat.lt_of_le_of_lt (Nat.min_le_right _ _) (by decide))) (nwOf m c)

/-- The invariant before point `n`: at the first point the scratches hold anything; afterwards the weights, the tokens
    and the race of the point before. -/
def Inv (c : Dev nD) : (n : ℕ) → sProp 𝕄
  | 0 => Pipeline.ΦA spec0 c
  | n + 1 => iprop(iprop(owns (c : Thread nD τ) (Memref.whole cc0_scratch0) fullShare (nwOf m c) ∗ owns (c : Thread nD τ) (Memref.whole cc0_scratch1) fullShare (tokOf m c)
      ∗ owns (c : Thread nD τ) (Memref.whole cc0_scratch2) fullShare (raceAt m c n).1 ∗ owns (c : Thread nD τ) (Memref.whole cc0_scratch3) fullShare (raceAt m c n).2)
      ∗ (∃ r, prngReg c r))

/-- The invariant after point `n`, whose race left `r`. -/
theorem Inv_succ (c : Dev nD) (n : ℕ) {r : FVec F S512x512 .f32 × IVec S512x512 32} (h : raceAt m c n = r) :
    Inv m c (n + 1) = iprop(iprop(owns (c : Thread nD τ) (Memref.whole cc0_scratch0) fullShare (nwOf m c) ∗ owns (c : Thread nD τ) (Memref.whole cc0_scratch1) fullShare (tokOf m c)
      ∗ owns (c : Thread nD τ) (Memref.whole cc0_scratch2) fullShare r.1 ∗ owns (c : Thread nD τ) (Memref.whole cc0_scratch3) fullShare r.2)
      ∗ (∃ r, prngReg c r)) := by
  subst h; rfl

/-- The proof data: the inputs keep their blocks; the sequences' block holds, after a later point, what the race before
    gives; the probabilities' block holds the softmax throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outOf (raceAt m c (t.val - 1)) (tokOf m c)
    | ⟨3, _⟩ => k0_pay2 (iblk m c 0 p0)
  Φ t := Inv m c t.val
  q _ := fullShare
  owed _ := 0

/-- The proof data's arrays are those the region finds. -/
theorem dats_A (c : Dev nD) (w : Fin cfg0.W) : (dats m 0 c).A w = V m c (Pipeline.arrRef spec0 w) := by dsimp only [dats]
/-- After a step the logits' buffer still holds its block. -/
theorem after_0 (c : Dev nD) (t : Fin cfg0.N) : (dats m 0 c).after 0 t = iblk m c 0 t := by dsimp only [dats]
/-- After a step the sequence's buffer still holds its block. -/
theorem after_1 (c : Dev nD) (t : Fin cfg0.N) : (dats m 0 c).after 1 t = iblk m c 1 t := by dsimp only [dats]
/-- After a step the rows' buffer holds the rows drawn by the race of the step before. -/
theorem after_2 (c : Dev nD) (t : Fin cfg0.N) : (dats m 0 c).after 2 t = outOf (raceAt m c (t.val - 1)) (tokOf m c) := by dsimp only [dats]
/-- After a step the probabilities' buffer holds the softmax. -/
theorem after_3 (c : Dev nD) (t : Fin cfg0.N) : (dats m 0 c).after 3 t = k0_pay2 (iblk m c 0 p0) := by dsimp only [dats]

/-- The logits' buffer holds its block at every point. -/
theorem before_0 (c : Dev nD) (t : Fin cfg0.N) (d) : (dats m 0 c).before 0 t d = iblk m c 0 t :=
  before0_0_of m (dats m 0 c) (dats_A m c 0) (after_0 m c) t d
/-- The sequence's buffer holds its block at every point. -/
theorem before_1 (c : Dev nD) (t : Fin cfg0.N) (d) : (dats m 0 c).before 1 t d = iblk m c 1 t :=
  before0_1_of m (dats m 0 c) (dats_A m c 1) (after_1 m c) t d

/-- The probabilities' buffer is stored into at the first point and never written back before the last. -/
theorem fresh_3 : ∀ n, n ≤ cfg0.N → cfg0.fresh 3 n = (n == 0 || n == 17) :=
  cfg0.fresh_tab 3 (fun n => n == 0 || n == 17) rfl (by decide +kernel)

/-- After the first point the probabilities' buffer is found holding the softmax. -/
theorem before_3 (c : Dev nD) (t : Fin cfg0.N) (ht : t.val ≠ 0) (d) : (dats m 0 c).before 3 t d = k0_pay2 (iblk m c 0 p0) := by
  rw [(dats m 0 c).before_out_traj 3 rfl (fun _ _ => rfl) (fun t _ _ _ => by rw [after_3, after_3]) t.val t rfl d,
    fresh_3 t.val (Nat.le_of_lt t.isLt), if_neg (by have := lt_of_lt_of_eq t.isLt points; simp; omega), after_3]

/-- The logits' block is the same at every point. -/
theorem iblk_0 (c : Dev nD) (t : Fin cfg0.N) : iblk m c 0 t = iblk m c 0 p0 := rfl
/-- The sequence's block is the same at every point. -/
theorem iblk_1 (c : Dev nD) (t : Fin cfg0.N) : iblk m c 1 t = iblk m c 1 p0 := rfl

/-- Only the first step leaves the rows' buffer alone. -/
theorem idle_2 : ∀ t : Fin cfg0.N, cfg0.idle 2 (grid0.coords t) = (t.val == 0) :=
  (by decide +kernel : ∀ t : Fin grid0.N, idle0 2 (grid0.coords t) = (t.val == 0))
/-- Every step but the first leaves the probabilities' buffer alone. -/
theorem idle_3 : ∀ t : Fin cfg0.N, cfg0.idle 3 (grid0.coords t) = (t.val != 0) :=
  (by decide +kernel : ∀ t : Fin grid0.N, idle0 3 (grid0.coords t) = (t.val != 0))
/-- Every step but the first writes the rows' buffer back. -/
theorem flush_2 : ∀ t : Fin cfg0.N, (cfg0.win 2).flush t = (t.val != 0) :=
  fun t => ((cfg0.win 2).flush_eq_flushF t).trans ((by decide +kernel : ∀ t : Fin grid0.N, win0_2.flushF t = (t.val != 0)) t)

/-- The memref of window 0's current buffer at a point; likewise of the other windows. -/
abbrev b0 (t : Fin cfg0.N) : Memref sig .tc .vmem S1x5120 .f32 := win0_0.stage (cfg0.slots t 0)
/-- Window 1's current buffer. -/
abbrev b1 (t : Fin cfg0.N) : Memref sig .tc .vmem S20x256 .f32 := win0_1.stage (cfg0.slots t 1)
/-- Window 2's current buffer. -/
abbrev b2 (t : Fin cfg0.N) : Memref sig .tc .vmem S512x256 .i32 := win0_2.stage (cfg0.slots t 2)
/-- Window 3's current buffer. -/
abbrev b3 (t : Fin cfg0.N) : Memref sig .tc .vmem S1x5120 .f32 := win0_3.stage (cfg0.slots t 3)

/-- What the launch owns besides the windows: the four scratch buffers and the random register. -/
theorem ΦA_split (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What a step leaves of the logits' buffer. -/
theorem leaves_0 (c : Dev nD) (t : Fin cfg0.N) : (dats m 0 c).leavesExact 0 t = owns (c : Thread nD τ) (b0 t) fullShare (iblk m c 0 t) := by
  unfold Dat.leavesExact; rw [show cfg0.idle 0 (cfg0.grid.coords t) = false from rfl, after_0]
/-- What a step leaves of the sequence's buffer. -/
theorem leaves_1 (c : Dev nD) (t : Fin cfg0.N) : (dats m 0 c).leavesExact 1 t = owns (c : Thread nD τ) (b1 t) fullShare (iblk m c 1 t) := by
  unfold Dat.leavesExact; rw [show cfg0.idle 1 (cfg0.grid.coords t) = false from rfl, after_1]
/-- The first step leaves the rows' buffer as found. -/
theorem leaves_2_first (c : Dev nD) (t : Fin cfg0.N) (ht : t.val = 0) :
    (dats m 0 c).leavesExact 2 t = iprop(∃ d, owns (c : Thread nD τ) (b2 t) fullShare ((dats m 0 c).before 2 t d)) :=
  (dats m 0 c).leavesExact_idle 2 t ((idle_2 t).trans (by simp [ht])) ((flush_2 t).trans (by simp [ht]))
/-- A later step leaves the rows' buffer holding its rows. -/
theorem leaves_2_later (c : Dev nD) (t : Fin cfg0.N) (ht : t.val ≠ 0) :
    (dats m 0 c).leavesExact 2 t = owns (c : Thread nD τ) (b2 t) fullShare (outOf (raceAt m c (t.val - 1)) (tokOf m c)) := by
  unfold Dat.leavesExact; rw [show cfg0.idle 2 (cfg0.grid.coords t) = false from (idle_2 t).trans (by simp [ht]), after_2]
/-- The first step leaves the probabilities' buffer holding the softmax. -/
theorem leaves_3_first (c : Dev nD) (t : Fin cfg0.N) (ht : t.val = 0) :
    (dats m 0 c).leavesExact 3 t = owns (c : Thread nD τ) (b3 t) fullShare (k0_pay2 (iblk m c 0 p0)) := by
  unfold Dat.leavesExact; rw [show cfg0.idle 3 (cfg0.grid.coords t) = false from (idle_3 t).trans (by simp [ht]), after_3]
/-- At a later point the probabilities' buffer, holding the softmax, is as the pipeline asks: as found, or, at the last
    point, as it is written back. -/
theorem leaves_3_later (c : Dev nD) (t : Fin cfg0.N) (ht : t.val ≠ 0) :
    owns (c : Thread nD τ) (b3 t) fullShare (k0_pay2 (iblk m c 0 p0)) ⊢ ((dats m 0 c).leavesExact 3 t : sProp 𝕄) := by
  unfold Dat.leavesExact
  rw [show cfg0.idle 3 (cfg0.grid.coords t) = true from (idle_3 t).trans (by simp [ht])]
  cases (cfg0.win 3).flush t
  · dsimp only
    simp only [before_3 m c t ht]
    iintro H; iexists (k0_pay2 (iblk m c 0 p0)); iexact H
  · dsimp only; rw [after_3]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- Of the first 16 steps the race held after a step is that step's own. -/
theorem raceAt_lt (c : Dev nD) (t : Fin cfg0.N) (h : t.val < 16) (hc : k0_cond3 (grid0.coords t) = 1#1) :
    raceAt m c t.val = race (grid0.coords t) hc (nwOf m c) := by
  have e : rp t.val = t := Fin.ext (by show min t.val 15 = t.val; omega)
  unfold raceAt; congr 2

/-- The last step runs no race, so that the one held is that of the step before. -/
theorem raceAt_last (c : Dev nD) (n : ℕ) (h : 15 ≤ n) : raceAt m c (n + 1) = raceAt m c n := by
  have e : rp (n + 1) = rp n := Fin.ext (by show min (n + 1) 15 = min n 15; omega)
  unfold raceAt; congr 2

set_option maxHeartbeats 4000000 in
/-- The body's triple at every point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl,
    show (dats m 0 c).Φ t.succ = Inv m c (t.val + 1) from rfl, show (dats m 0 c).Φ t.castSucc = Inv m c t.val from rfl,
    leaves_0, leaves_1, iblk_0 m c t, iblk_1 m c t]
  have hN : t.val < 17 := lt_of_lt_of_eq t.isLt points
  by_cases h0 : t.val = 0
  · have hc2 : k0_cond3 (grid0.coords t) = 1#1 := (at_race t).mpr (by omega)
    rw [leaves_2_first m c t h0, leaves_3_first m c t h0, show Inv m c t.val = (Pipeline.ΦA spec0 c : sProp 𝕄) from by rw [h0]; rfl, ΦA_split]
    rw [Inv_succ m c t.val (raceAt_lt m c t (by omega) hc2)]
    iintro ⟨⟨⟨HS0, HS1, HS2, HS3⟩, Hg⟩, Ho, ⟨%d0, H0⟩, ⟨%d1, H1⟩, ⟨%d2, H2⟩, ⟨%d3, H3⟩⟩
    iapply (runA c (grid0.coords t) _ _ _ _ _ _ _ _ _ (Memref.isWhole_whole _) _ (Memref.isWhole_whole _) _ (Memref.isWhole_whole _) _ (Memref.isWhole_whole _)
      ((at_first t).mpr h0) (fun h => (at_later t).mp h h0) hc2 (iblk m c 0 p0) (iblk m c 1 p0) _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    unfold held
    iintro ⟨H0, H1, H2, H3, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexists _; iexact H2
    iexact H3
  · obtain ⟨n, hn⟩ : ∃ n, t.val = n + 1 := ⟨t.val - 1, by omega⟩
    rw [leaves_2_later m c t h0, show t.val - 1 = n by omega]
    simp only [before_3 m c t h0]
    by_cases h2 : t.val < 16
    · have hc2 : k0_cond3 (grid0.coords t) = 1#1 := (at_race t).mpr h2
      rw [Inv_succ m c t.val (raceAt_lt m c t h2 hc2), hn, Inv_succ m c n rfl]
      iintro ⟨⟨⟨HS0, HS1, HS2, HS3⟩, Hg⟩, Ho, ⟨%d0, H0⟩, ⟨%d1, H1⟩, ⟨%d2, H2⟩, ⟨%d3, H3⟩⟩
      iapply (runB c (grid0.coords t) _ _ _ _ _ _ _ _ _ (Memref.isWhole_whole _) _ (Memref.isWhole_whole _) _ (Memref.isWhole_whole _) _ (Memref.isWhole_whole _)
        (fun h => h0 ((at_first t).mp h)) ((at_later t).mpr h0) hc2 (iblk m c 0 p0) (iblk m c 1 p0) (k0_pay2 (iblk m c 0 p0)) (nwOf m c) (tokOf m c) (raceAt m c n) Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      isplitl [HS3]; · iexact HS3
      unfold held
      iintro ⟨H0, H1, H2, H3, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      iapply (leaves_3_later m c t h0); iexact H3
    · have hc2 : ¬k0_cond3 (grid0.coords t) = 1#1 := fun h => h2 ((at_race t).mp h)
      rw [hn, Inv_succ m c (n + 1) (raceAt_last m c n (by omega)), Inv_succ m c n rfl]
      iintro ⟨⟨⟨HS0, HS1, HS2, HS3⟩, Hg⟩, Ho, ⟨%d0, H0⟩, ⟨%d1, H1⟩, ⟨%d2, H2⟩, ⟨%d3, H3⟩⟩
      iapply (runC c (grid0.coords t) _ _ _ _ _ _ _ _ _ (Memref.isWhole_whole _) _ (Memref.isWhole_whole _) _ (Memref.isWhole_whole _) _ (Memref.isWhole_whole _)
        (fun h => h0 ((at_first t).mp h)) ((at_later t).mpr h0) hc2 (iblk m c 0 p0) (iblk m c 1 p0) (k0_pay2 (iblk m c 0 p0)) (nwOf m c) (tokOf m c) (raceAt m c n) Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      isplitl [HS3]; · iexact HS3
      unfold held
      iintro ⟨H0, H1, H2, H3, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      iapply (leaves_3_later m c t h0); iexact H3

/-- The body called at a step is the kernel's at that step. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (body_sound m c t) rfl .rfl fun _ => .rfl

/-- What the launch owns is the invariant before the first step. -/
theorem inv_in (c : Dev nD) : Pipeline.ΦA spec0 c ⊢ (dats m 0 c).Φ 0 := Idealize.SL.BI.Entails.refl _

/-- The invariant after the last step gives back what the launch owns. -/
theorem inv_out (c : Dev nD) : (dats m 0 c).Φ (Fin.last cfg0.N) ⊢ Pipeline.ΦA spec0 c := by
  rw [show (dats m 0 c).Φ (Fin.last cfg0.N) = Inv m c (16 + 1) from by show Inv m c (Fin.last cfg0.N).val = _; rw [Fin.val_last, points], ΦA_split]
  rw [Inv_succ m c 16 rfl]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- The run of the program: it ends, its arrays as the proof data say, and every semaphore counter at zero. -/
theorem run_named : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := inv_in m) (hout := inv_out m)

/-- The arguments end unchanged and every semaphore counter ends at zero. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run_named m ρ)))
    ((θ_run defs _ _).mono (fun _ h => h.2) (run_named m ρ))

end Cert.KernelIdeal.KV

end
-- ==== Proof.KBits.lean ====
module

public import proofs.«01_k».proof.Proof.Gen.Kernel
public import proofs.«01_k».proof.Proof.KData
public import proofs.«01_k».proof.Defs
public import Idealize.ShloMosaic.Lib.Tactic

/-! The kernel as printed runs as the kernel with its named literal does, where the name means the literal's own bits. -/

@[expose] public section

set_option maxRecDepth 65536

noncomputable section

namespace Cert.Kernel.KB

open Idealize.ShloMosaic Idealize.SL.Sem Idealize.ShloMosaic.TcCoe Idealize.ShloMosaic.Tactic

variable {F : FTy → Type} [FloatOps F]

/-- A named constant read as its own bits. -/
local instance plain : Named F where
  named _ _ {φ} b := FloatOps.ofBits φ b

/-- What is said of the kernel with the named literal: its run ends with its arguments as they were and no semaphore
    raised. -/
def Kept : Prop :=
  ∀ (m : (ℓ : Loc Cert.KernelIdeal.nD Cert.KernelIdeal.τ Cert.KernelIdeal.sig) → Buf (Elt Bits) ℓ)
    (g : Dev Cert.KernelIdeal.nD → PrngReg), Cert.Pre_Kernel m →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0)

/-- The same said of the printed kernel is the same statement: the two programs differ in the name alone. -/
theorem kept_eq : Cert.quiescent_Kernel = Kept := by sl_kernel_rfl

/-- The printed kernel ends with its arguments as they were and no semaphore raised. -/
theorem frame : Cert.quiescent_Kernel :=
  kept_eq.mpr fun m g _ => Cert.KernelIdeal.KV.arguments_kept m g

end Cert.Kernel.KB
-- ==== Proof.Words.lean ====
module

public import Idealize.ShloMosaic.PureOps.Vector

/-! The threefry hash of the uniform draws, on single 32-bit words. -/

@[expose] public section

namespace Cert.Words

/-- A pair of 32-bit words: the state of the hash. -/
abbrev Pair := BitVec 32 × BitVec 32

/-- One round: add the words, rotate the second (left by `r`, right by `s = 32 - r`), and mix. -/
def rnd (r s : BitVec 32) (p : Pair) : Pair :=
  (p.1 + p.2, (p.1 + p.2) ^^^ ((p.2 <<< r) ||| (p.2 >>> s)))

/-- The last three of four rounds of the first kind. -/
def even3 (p : Pair) : Pair := rnd 6#32 26#32 (rnd 26#32 6#32 (rnd 15#32 17#32 p))

/-- Four rounds of the first kind. -/
def even (p : Pair) : Pair := even3 (rnd 13#32 19#32 p)

/-- Four rounds of the second kind. -/
def odd (p : Pair) : Pair := rnd 24#32 8#32 (rnd 16#32 16#32 (rnd 29#32 3#32 (rnd 17#32 15#32 p)))

/-- Adding a pair of keys to the state. -/
def inj (a b : BitVec 32) (p : Pair) : Pair := (p.1 + a, p.2 + b)

/-- Adding a pair of keys and a counter to the state. -/
def injOf (a b c : BitVec 32) (p : Pair) : Pair := (p.1 + a, p.2 + b + c)

/-- The hash of the counter word `x` (the key, 42, already added), the first round's sum with zero left out. -/
def hash (x : BitVec 32) : Pair :=
  inj 466689008#32 5#32 (even (inj 42#32 466689012#32 (odd (inj 0#32 45#32 (even
    (inj 466689008#32 2#32 (odd (inj 42#32 466689009#32 (even3 (x, x ^^^ ((x <<< 13#32) ||| (x >>> 19#32))))))))))))

/-- The 23 mantissa bits of the draw under the exponent of one: a float in [1, 2). -/
def bits (x : BitVec 32) : BitVec 32 := (((hash x).1 ^^^ (hash x).2) >>> 9#32) ||| 1065353216#32

/-- A key and a counter added one after the other are their sum added once. -/
theorem injOf_eq (a b c : BitVec 32) (p : Pair) : injOf a b c p = inj a (b + c) p := by
  simp only [injOf, inj, BitVec.add_assoc]

/-- The hash from the state `(0, x)`, its first round taken like the others. -/
theorem hash_eq (x : BitVec 32) : hash x =
    inj 466689008#32 5#32 (even (inj 42#32 466689012#32 (odd (inj 0#32 45#32 (even
    (inj 466689008#32 2#32 (odd (inj 42#32 466689009#32 (even (0#32, x)))))))))) := by
  have h : even (0#32, x) = even3 (x, x ^^^ ((x <<< 13#32) ||| (x >>> 19#32))) := by
    simp only [even, rnd, BitVec.zero_add]
  rw [h, hash]

end Cert.Words
-- ==== Proof.KVal.lean ====
module

public import proofs.«01_k».proof.Proof.KTrip
public import proofs.«01_k».proof.Proof.Words
public import Idealize.ShloMosaic.Lib.Pipeline.Value

/-! The kernel's race values, read at an entry. -/

@[expose] public section

noncomputable section

namespace Cert.KernelIdeal.KV

open Idealize.ShloMosaic Idealize.ShloMosaic.TcCoe Idealize.ShloMosaic.Tactic
open Cert.KernelIdeal Cert.KernelIdeal.Gen

variable {F : FTy → Type} [FloatOps F] [Named F]

/-- The logarithm of a word read as a number, less one. -/
def logW (w : BitVec 32) : F .f32 :=
  FloatOps.log (FloatOps.subf (FloatOps.ofBits .f32 w) (Scalar.ofBits .f32 0x3F800000#32))

/-- One entry of the race values of a counter word and a chunk. -/
def entry (x : BitVec 32) (ch : Vec F S1x512 .f32) (p : Shape.Idx S512x512) : F .f32 :=
  FloatOps.mulf (logW (Words.bits x)) (broadcastTo S512x512 ch broadcasts_S1x512_S512x512 p)

/-- The race values of a trip's third chunk. -/
def val3 (pre : IVec S512x512 32) (k : Fin k0_t1_loop.trips) (ch : Vec F S1x512 .f32) : FVec F S512x512 .f32 :=
  k0_pay130 (words3 pre k).1 (words3 pre k).2.1 (words3 pre k).2.2 ch

/-- An entry of a trip's first race values. -/
theorem val1_apply (pre : IVec S512x512 32) (k : Fin k0_t1_loop.trips) (ch : Vec F S1x512 .f32) (p : Shape.Idx S512x512) :
    val1 pre k ch p = entry (pre p + jOf k * 512#32) ch p := by
  sl_kernel_rfl

/-- An entry of a trip's second race values. -/
theorem val2_apply (pre : IVec S512x512 32) (k : Fin k0_t1_loop.trips) (ch : Vec F S1x512 .f32) (p : Shape.Idx S512x512) :
    val2 pre k ch p = entry (pre p + (jOf k + 1#32) * 512#32) ch p := by
  sl_kernel_rfl

/-- An entry of a trip's third race values. -/
theorem val3_apply (pre : IVec S512x512 32) (k : Fin k0_t1_loop.trips) (ch : Vec F S1x512 .f32) (p : Shape.Idx S512x512) :
    val3 pre k ch p = entry (pre p + (jOf k + 2#32) * 512#32) ch p := by
  sl_kernel_rfl

/-- The logarithms of the first chunk's words. -/
theorem words_first (g : BitVec 32) (p : Shape.Idx S512x512) :
    k0_pay170 (F := F)
      (k0_pay168 (k0_pay155 (k0_pay142 g) (k0_pay143 g) (k0_pay144 g)) (k0_pay156 (k0_pay142 g) (k0_pay143 g) (k0_pay144 g))
        (k0_pay157 (k0_pay142 g) (k0_pay143 g) (k0_pay144 g)))
      (k0_pay169 (k0_pay155 (k0_pay142 g) (k0_pay143 g) (k0_pay144 g)) (k0_pay156 (k0_pay142 g) (k0_pay143 g) (k0_pay144 g))
        (k0_pay157 (k0_pay142 g) (k0_pay143 g) (k0_pay144 g)))
      466689012#32 p = logW (Words.bits (k0_pay134 g p + 0#32)) := by
  sl_kernel_rfl

/-- The first chunk's race values are the logarithms times the weights. -/
theorem first_product (a b : FVec F S512x512 .f32) (p : Shape.Idx S512x512) :
    k0_pay6 a b p = FloatOps.mulf (a p) (b p) := by
  unfold k0_pay6
  rw [shapeCast_self]
  rfl

/-- The race values of the first chunk. -/
theorem first_apply (i : grid0.Coords) (nw : Vec F S1x5120 .f32) (p : Shape.Idx S512x512) :
    first i nw p = entry (k0_pay134 (BitVec.ofNat 32 (i 0).val) p + 0#32) (chunkAt nw ![0, 0] inb_S1x5120_S1x512_0_0) p :=
  (first_product _ _ p).trans
    (congrArg (fun z => FloatOps.mulf z (k0_pay171 (chunkAt nw ![0, 0] inb_S1x5120_S1x512_0_0) p))
      (words_first (BitVec.ofNat 32 (i 0).val) p))

end Cert.KernelIdeal.KV
-- ==== Proof.Spec.lean ====
module

public import Idealize.ShloMosaic.Lib.IdealHost
public import proofs.«01_k».proof.Proof.Words

/-!
# The mathematics of the race

Nothing here mentions a program. A position draws one of 5120 columns: the one whose value
`log u · (0 − exp (0 − l))` is least, the lower column on a tie. The same column has the greatest
score `−log (−log u) + l`. The file also holds the softmax both programs return.
-/

@[expose] public section

noncomputable section

namespace Cert.Spec

open Idealize.ShloMosaic

/-- The greatest of 5120 numbers. -/
def top (s : Fin 5120 → EReal) : EReal := Finset.univ.sup s

/-- The softmax of 5120 numbers, shifted by the greatest. -/
def soft (s : Fin 5120 → EReal) (c : Fin 5120) : EReal :=
  Ideal.div (Ideal.exp (s c - top s)) (∑ k, Ideal.exp (s k - top s))

/-- A logit: a number over the temperature, which is `f32(0.1)`. -/
def scaled (x : EReal) : EReal := x * ((134217728 / 13421773 : ℝ) : EReal)

/-- A fold of `max` from below over a set that reads the same numbers is the greatest of them. -/
theorem fold_top {ι : Type} (S : Finset ι) (f : ι → EReal) (s : Fin 5120 → EReal) (h1 : ∀ i ∈ S, ∃ k, f i = s k)
    (h2 : ∀ k, ∃ i ∈ S, f i = s k) : S.fold (max : EReal → EReal → EReal) ⊥ f = top s := by
  apply le_antisymm
  · rw [Finset.fold_max_le]
    refine ⟨bot_le, fun i hi => ?_⟩
    obtain ⟨k, hk⟩ := h1 i hi
    rw [hk]
    exact Finset.le_sup (f := s) (Finset.mem_univ k)
  · refine Finset.sup_le fun k _ => ?_
    obtain ⟨i, hi, e⟩ := h2 k
    rw [← e]
    exact (Finset.fold_max_le _).mp le_rfl |>.2 i hi

/-- `m` is the least value of `f` on the numbers from `a` up to `b`, and `j` the first place it is
taken. -/
structure FirstMin (f : ℕ → EReal) (a b : ℕ) (m : EReal) (j : ℕ) : Prop where
  ge : a ≤ j
  lt : j < b
  val : f j = m
  least : ∀ k, a ≤ k → k < b → m ≤ f k
  before : ∀ k, a ≤ k → k < j → m < f k

/-- The least of one value. -/
theorem FirstMin.one (f : ℕ → EReal) (a : ℕ) : FirstMin f a (a + 1) (f a) a where
  ge := le_rfl
  lt := Nat.lt_succ_self a
  val := rfl
  least k h h' := by obtain rfl : k = a := by omega
                     exact le_rfl
  before k h h' := by omega

/-- The least of two adjacent ranges: the later one wins only when strictly less. -/
theorem FirstMin.join {f : ℕ → EReal} {a b c : ℕ} {m m' : EReal} {j j' : ℕ}
    (h : FirstMin f a b m j) (h' : FirstMin f b c m' j') :
    FirstMin f a c (min m' m) (if m' < m then j' else j) := by
  have hab := h.ge; have hb := h.lt; have hbc := h'.ge; have hc := h'.lt
  split_ifs with hm
  · refine ⟨by omega, hc, by rw [h'.val, min_eq_left hm.le], fun k hk hk' => ?_, fun k hk hk' => ?_⟩
    · rcases lt_or_ge k b with hkb | hkb
      · exact (min_le_right _ _).trans (h.least k hk hkb)
      · exact (min_le_left _ _).trans (h'.least k hkb hk')
    · rw [min_eq_left hm.le]
      rcases lt_or_ge k b with hkb | hkb
      · exact hm.trans_le (h.least k hk hkb)
      · exact h'.before k hkb hk'
  · have hm' := not_lt.mp hm
    refine ⟨hab, by omega, by rw [h.val, min_eq_right hm'], fun k hk hk' => ?_, fun k hk hk' => ?_⟩
    · rcases lt_or_ge k b with hkb | hkb
      · exact (min_le_right _ _).trans (h.least k hk hkb)
      · exact (min_le_left _ _).trans (h'.least k hkb hk')
    · rw [min_eq_right hm']
      exact h.before k hk hk'

/-- The first least place is unique. -/
theorem FirstMin.unique {f : ℕ → EReal} {a b : ℕ} {m m' : EReal} {j j' : ℕ}
    (h : FirstMin f a b m j) (h' : FirstMin f a b m' j') : j = j' := by
  have hm : m = m' := le_antisymm (h'.val ▸ h.least j' h'.ge h'.lt) (h.val ▸ h'.least j h.ge h.lt)
  subst hm
  rcases lt_trichotomy j j' with hlt | heq | hgt
  · exact absurd h.val (h'.before j h.ge hlt).ne'
  · exact heq
  · exact absurd h'.val (h.before j' h'.ge hgt).ne'

/-- Two functions equal on the range have the same first least place. -/
theorem FirstMin.congr {f g : ℕ → EReal} {a b : ℕ} {m : EReal} {j : ℕ}
    (h : FirstMin f a b m j) (hfg : ∀ k, a ≤ k → k < b → f k = g k) : FirstMin g a b m j where
  ge := h.ge
  lt := h.lt
  val := (hfg j h.ge h.lt).symm.trans h.val
  least k hk hk' := (hfg k hk hk') ▸ h.least k hk hk'
  before k hk hk' := (hfg k hk (hk'.trans h.lt)) ▸ h.before k hk hk'

/-- 512 lanes, each with the first least of its ten columns: the least of the lanes' winners and the
lowest column among the lanes that have it are the first least of all 5120 columns. -/
theorem FirstMin.lanes {g : ℕ → EReal} {M : Fin 512 → EReal} {J : Fin 512 → ℕ} {m : EReal} {n : ℕ}
    (h : ∀ l : Fin 512, FirstMin (fun j => g (j * 512 + l)) 0 10 (M l) (J l))
    (hm : ∀ l, m ≤ M l) {w : Fin 512} (hw : M w = m) (hn : n = J w * 512 + w)
    (hle : ∀ l, M l = m → n ≤ J l * 512 + l) : FirstMin g 0 5120 m n := by
  have key : ∀ k : ℕ, k < 5120 → ∃ l : Fin 512, k = k / 512 * 512 + l.val ∧ k / 512 < 10 :=
    fun k hk => ⟨⟨k % 512, Nat.mod_lt _ (by norm_num)⟩, by show k = k / 512 * 512 + k % 512; omega, by omega⟩
  have h10 := (h w).lt
  have hwl := w.isLt
  refine ⟨Nat.zero_le _, by omega, ?_, fun k _ hk => ?_, fun k _ hk => ?_⟩
  · rw [hn, ← hw]; exact (h w).val
  · obtain ⟨l, hl, hk10⟩ := key k hk
    rw [hl]
    exact (hm l).trans ((h l).least _ (Nat.zero_le _) hk10)
  · obtain ⟨l, hl, hk10⟩ := key k (by omega)
    rcases (hm l).lt_or_eq with hlt | heq
    · rw [hl]
      exact hlt.trans_le ((h l).least _ (Nat.zero_le _) hk10)
    · have hnl := hle l heq.symm
      rw [hl]
      rw [heq]
      exact (h l).before _ (Nat.zero_le _) (by omega)

/-- A column's value in the race: `log u` times the negative weight of the column. -/
def raced (u l : EReal) : EReal := Ideal.log u * (0 - Ideal.exp (0 - l))

/-- A column's score: its logit plus Gumbel noise. -/
def score (u l : EReal) : EReal := -(Ideal.log (-(Ideal.log u))) + l

/-- The logarithm of a number in [0, 1) is −∞ or a negative real. -/
theorem log_neg_or_bot {u : ℝ} (h0 : 0 ≤ u) (h1 : u < 1) :
    Ideal.log (u : EReal) = ⊥ ∨ ∃ a : ℝ, a < 0 ∧ Ideal.log (u : EReal) = (a : EReal) := by
  rcases h0.lt_or_eq with h | h
  · exact .inr ⟨Real.log u, Real.log_neg h h1, if_neg (not_le.mpr h)⟩
  · exact .inl (if_pos h.symm.le)

/-- A value in the race is positive, and its negated logarithm is the score. -/
theorem raced_score {u : ℝ} (h0 : 0 ≤ u) (h1 : u < 1) {l : EReal} (hl : l < ⊤) :
    0 < raced u l ∧ score u l = -(Ideal.log (raced u l)) := by
  unfold raced score
  induction l with
  | top => exact absurd hl (lt_irrefl _)
  | bot =>
    have e : (0 : EReal) - Ideal.exp (0 - ⊥) = ⊥ := rfl
    rw [e]
    rcases log_neg_or_bot h0 h1 with h | ⟨a, ha, h⟩ <;> rw [h]
    · rw [EReal.bot_mul_bot]
      exact ⟨EReal.zero_lt_top, EReal.add_bot _⟩
    · rw [EReal.coe_mul_bot_of_neg ha]
      exact ⟨EReal.zero_lt_top, EReal.add_bot _⟩
  | coe l =>
    have e : (0 : EReal) - Ideal.exp (0 - (l : EReal)) = ((-Real.exp (-l) : ℝ) : EReal) := by
      rw [zero_sub, zero_sub, ← EReal.coe_neg, EReal.coe_neg (Real.exp (-l))]; rfl
    have hp := Real.exp_pos (-l)
    rw [e]
    rcases log_neg_or_bot h0 h1 with h | ⟨a, ha, h⟩ <;> rw [h]
    · rw [EReal.bot_mul_coe_of_neg (by linarith)]
      exact ⟨EReal.zero_lt_top, EReal.bot_add _⟩
    · have hpos : 0 < a * -Real.exp (-l) := by nlinarith
      have e1 : Ideal.log (-(a : EReal)) = ((Real.log (-a) : ℝ) : EReal) := by
        rw [← EReal.coe_neg]; exact if_neg (by linarith)
      have e2 : Ideal.log (((a * -Real.exp (-l) : ℝ)) : EReal)
          = ((Real.log (a * -Real.exp (-l)) : ℝ) : EReal) := if_neg (not_le.mpr hpos)
      rw [← EReal.coe_mul, e1, e2, ← EReal.coe_neg, ← EReal.coe_add, ← EReal.coe_neg]
      refine ⟨by exact_mod_cast hpos, ?_⟩
      have : a * -Real.exp (-l) = (-a) * Real.exp (-l) := by ring
      rw [this, Real.log_mul (by linarith) hp.ne', Real.log_exp]
      congr 1; ring

/-- The logarithm is strictly increasing on the positive numbers. -/
theorem log_lt {x y : EReal} (hx : 0 < x) (hxy : x < y) : Ideal.log x < Ideal.log y := by
  induction x with
  | bot => simp at hx
  | top => simp at hxy
  | coe x =>
    have hx' : 0 < x := by exact_mod_cast hx
    have e : Ideal.log (x : EReal) = ((Real.log x : ℝ) : EReal) := if_neg (not_le.mpr hx')
    induction y with
    | bot => simp at hxy
    | top => rw [e]; exact EReal.coe_lt_top _
    | coe y =>
      have hxy' : x < y := by exact_mod_cast hxy
      have e' : Ideal.log (y : EReal) = ((Real.log y : ℝ) : EReal) :=
        if_neg (not_le.mpr (hx'.trans hxy'))
      rw [e, e']
      exact_mod_cast Real.log_lt_log hx' hxy'

/-- The logarithm does not decrease on the positive numbers. -/
theorem log_le {x y : EReal} (hx : 0 < x) (hxy : x ≤ y) : Ideal.log x ≤ Ideal.log y := by
  rcases hxy.lt_or_eq with h | h
  · exact (log_lt hx h).le
  · rw [h]

/-- The first least value in the race has the first greatest score. -/
theorem first_greatest {u : ℕ → ℝ} {l : ℕ → EReal} (h0 : ∀ k, 0 ≤ u k) (h1 : ∀ k, u k < 1)
    (hl : ∀ k, k < 5120 → l k < ⊤) {m : EReal} {n : ℕ}
    (h : FirstMin (fun k => raced (u k) (l k)) 0 5120 m n) :
    (∀ k, k < 5120 → score (u k) (l k) ≤ score (u n) (l n))
      ∧ ∀ k, k < n → score (u k) (l k) < score (u n) (l n) := by
  have hn := h.lt
  have P := fun k hk => raced_score (h0 k) (h1 k) (hl k hk)
  have hv : raced (u n) (l n) = m := h.val
  refine ⟨fun k hk => ?_, fun k hk => ?_⟩
  · rw [(P k hk).2, (P n hn).2, EReal.neg_le_neg_iff]
    refine log_le (P n hn).1 ?_
    rw [hv]
    exact h.least k (Nat.zero_le _) hk
  · rw [(P k (hk.trans hn)).2, (P n hn).2, EReal.neg_lt_neg_iff]
    refine log_lt (P n hn).1 ?_
    rw [hv]
    exact h.before k (Nat.zero_le _) hk

/-- The fraction of a counter's random word. -/
def unif (x : BitVec 32) : ℝ :=
  ((Words.bits x).extractLsb' 0 23).toNat * (2 : ℝ) ^ (-23 : ℤ)

/-- A fraction is not negative. -/
theorem unif_nonneg (x : BitVec 32) : 0 ≤ unif x := by unfold unif; positivity

/-- A fraction is below 1. -/
theorem unif_lt_one (x : BitVec 32) : unif x < 1 := by
  have h : ((Words.bits x).extractLsb' 0 23).toNat < 2 ^ 23 := BitVec.isLt _
  unfold unif
  rw [zpow_neg, ← div_eq_mul_inv, div_lt_one (by positivity)]
  exact_mod_cast h

/-- A word with sign zero and the exponent of one is one plus its fraction. -/
theorem decode (y : BitVec 32) :
    Ideal.ofBits .f32 ((y >>> 9#32) ||| 1065353216#32)
      = ((1 + (((y >>> 9#32) ||| 1065353216#32).extractLsb' 0 23).toNat * (2 : ℝ) ^ (-23 : ℤ) : ℝ) : EReal) := by
  have hs : ((y >>> 9#32) ||| 1065353216#32).extractLsb' 31 1 = 0#1 := by
    ext i hi
    obtain rfl : i = 0 := by omega
    have hb : (y >>> 9#32).getLsbD 31 = false := by
      rw [BitVec.ushiftRight_eq', BitVec.getLsbD_ushiftRight]
      exact BitVec.getLsbD_of_ge _ _ (by show 32 ≤ 9 + 31; omega)
    rw [BitVec.getElem_extractLsb', BitVec.getLsbD_or, hb]
    clear hb
    revert hi
    decide
  have he : ((y >>> 9#32) ||| 1065353216#32).extractLsb' 23 8 = 127#8 := by
    ext i hi
    have hb : ∀ i, i < 8 → (y >>> 9#32).getLsbD (23 + i) = false ∧ (1065353216#32).getLsbD (23 + i) = (127#8).getLsbD i := by
      intro i hi
      refine ⟨?_, by interval_cases i <;> rfl⟩
      rw [BitVec.ushiftRight_eq', BitVec.getLsbD_ushiftRight]
      exact BitVec.getLsbD_of_ge _ _ (by show 32 ≤ 9 + (23 + i); omega)
    rw [BitVec.getElem_extractLsb', BitVec.getLsbD_or, (hb i hi).1, (hb i hi).2, Bool.false_or]
    exact BitVec.getLsbD_eq_getElem hi
  show Ideal.ieee 8 23 _ = _
  unfold Ideal.ieee
  simp only [show 8 + 23 = 31 from rfl, hs, he]
  generalize ((y >>> 9#32 ||| 1065353216#32).extractLsb' 0 23).toNat = n
  rw [if_neg (by decide), if_neg (by decide), EReal.coe_eq_coe_iff]
  norm_num
  ring

/-- The random word of a counter, less one, is its fraction. -/
theorem bits_sub_one (x : BitVec 32) :
    Ideal.ofBits .f32 (Words.bits x) - 1 = ((unif x : ℝ) : EReal) := by
  have h := decode ((Words.hash x).1 ^^^ (Words.hash x).2)
  rw [show ((((Words.hash x).1 ^^^ (Words.hash x).2) >>> 9#32) ||| 1065353216#32) = Words.bits x from rfl] at h
  rw [h, ← EReal.coe_one, ← EReal.coe_sub]
  congr 1
  unfold unif
  ring

end Cert.Spec
-- ==== Proof.KLane.lean ====
module

public import proofs.«01_k».proof.Proof.KVal
public import proofs.«01_k».proof.Proof.Spec
public import Idealize.ShloMosaic.Lib.ValueIdxCore
public import Idealize.ShloMosaic.Lib.ValueIdx
public import Idealize.ShloMosaic.Lib.Pipeline.Value
public import Idealize.ShloMosaic.Lib.Pipeline.ValueKit.Tiles

/-!
# The lanes of a block's race

Row `r` and lane `l` of a block hold, after the loop's trips, the least race value over the columns
`j·512 + l` and the chunk number `j` at which it is first reached.
-/

@[expose] public section

noncomputable section

namespace Cert.KernelIdeal.KV

open Idealize.ShloMosaic Idealize.ShloMosaic.TcCoe Idealize.ShloMosaic.Tactic Idealize.ShloMosaic.ValueIdx
open Cert.KernelIdeal Cert.KernelIdeal.Gen Cert.Spec

attribute [local irreducible] Words.bits Words.hash val1 val2 words3 k0_pay130 k0_pay170

variable [Named Ideal]

/-- The counter of column `c` at position `R`. -/
def ctrN (R c : ℕ) : BitVec 32 := BitVec.ofNat 32 (5120 * R + c) + 42#32

/-- The race value of column `c` at position `R`, the negative weights being `nw`. -/
def cell (nw : Vec Ideal S1x5120 .f32) (R c : ℕ) : EReal :=
  Ideal.log (unif (ctrN R c)) * (if h : c < 5120 then nw (ix2 0 ⟨c, h⟩) else 0)

/-- The logarithm of a word less one, over the extended reals. -/
theorem logW_eq (w : BitVec 32) :
    logW (F := Ideal) w = Ideal.log (Ideal.ofBits .f32 w - Ideal.ofBits .f32 0x3F800000#32) := by
  rfl

/-- A counter's uniform logarithm is the logarithm of its fraction. -/
theorem logU_eq (x : BitVec 32) : logW (F := Ideal) (Words.bits x) = Ideal.log (unif x) := by
  rw [← bits_sub_one, ← Ideal.ofBits_one_f32]
  exact logW_eq _

/-- The counter words of a block, one chunk on by 512 columns a chunk. -/
theorem counter (b r j l : ℕ) (x : BitVec 32)
    (hx : x = BitVec.ofNat 32 (j * 512)) :
    (BitVec.ofNat 32 b * 2621440#32 + 42#32) + BitVec.ofNat 32 r * 5120#32 + BitVec.ofNat 32 l + x
      = ctrN (b * 512 + r) (j * 512 + l) := by
  subst hx
  unfold ctrN
  simp only [← BitVec.ofNat_mul, ← BitVec.ofNat_add]
  congr 1
  omega

/-- The first counter words of a block. -/
theorem pre_apply (b : ℕ) (r l : Fin 512) :
    k0_pay134 (BitVec.ofNat 32 b) (ix2 r l)
      = (BitVec.ofNat 32 b * 2621440#32 + 42#32) + BitVec.ofNat 32 r.val * 5120#32 + BitVec.ofNat 32 l.val := by
  have h0 := iota_single_apply .tc S512x512 32 0 iota_S512x512_d0_w32 (ix2 r l)
  have h1 := iota_single_apply .tc S512x512 32 1 iota_S512x512_d1_w32 (ix2 r l)
  show (BitVec.ofNat 32 b * 2621440#32 + 42#32) + iota .tc S512x512 32 [0] iota_S512x512_d0_w32 (ix2 r l) * 5120#32
    + iota .tc S512x512 32 [1] iota_S512x512_d1_w32 (ix2 r l) = _
  rw [h0, h1]

/-- An entry of the race values, by its row and column. -/
theorem entry_apply (nw : Vec Ideal S1x5120 .f32) (b j : ℕ) (r l : Fin 512) (hj : j < 10) (x : BitVec 32)
    (hx : x = BitVec.ofNat 32 (j * 512)) (off : Fin 2 → Nat) (h) (ho : off = ![0, j * 512]) :
    entry (F := Ideal) (k0_pay134 (BitVec.ofNat 32 b) (ix2 r l) + x) (chunkAt nw off h) (ix2 r l)
      = cell nw (b * 512 + r) (j * 512 + l) := by
  subst ho
  have hl := l.isLt
  have hc : j * 512 + l.val < 5120 := by omega
  rw [pre_apply]
  unfold entry cell
  rw [counter b r j l x hx, logU_eq, dif_pos hc, Ideal.mulf_def]
  congr 1
  rw [broadcastTo_apply _ _ _ (ix2 (n0 := 1) (n1 := 512) 0 l) (by intro a; fin_cases a <;> rfl)]
  unfold chunkAt
  refine View.ld_unit_apply_of nw ![0, j * 512] S1x512.size h (ix2 0 l) _ fun a => ?_
  fin_cases a <;> rfl

/-- The loop runs three trips. -/
theorem trips : k0_t1_loop.trips = 3 := by decide

/-- The first chunk of trip `k` is `1 + 3 k`. -/
theorem jOf_eq (k : Fin k0_t1_loop.trips) : jOf k = BitVec.ofNat 32 (1 + 3 * k.val) := by
  revert k; decide

/-- Where the weights of a trip's first chunk start. -/
theorem off1_eq : ∀ k : Fin k0_t1_loop.trips, k0_off1 k = ![0, (1 + 3 * k.val) * 512] := by decide

/-- Where the weights of a trip's second and third chunk start. -/
theorem off2_eq : ∀ k : Fin k0_t1_loop.trips, k0_off2 k 1#32 = ![0, (2 + 3 * k.val) * 512]
    ∧ k0_off2 k 2#32 = ![0, (3 + 3 * k.val) * 512] := by decide

/-- The columns at which a trip's three chunks start, as words. -/
theorem jOf_mul : ∀ k : Fin k0_t1_loop.trips, jOf k * 512#32 = BitVec.ofNat 32 ((1 + 3 * k.val) * 512)
    ∧ (jOf k + 1#32) * 512#32 = BitVec.ofNat 32 ((2 + 3 * k.val) * 512)
    ∧ (jOf k + 2#32) * 512#32 = BitVec.ofNat 32 ((3 + 3 * k.val) * 512) := by decide

/-- The numbers of a trip's second and third chunk, as words. -/
theorem jOf_add : ∀ k : Fin k0_t1_loop.trips, Scalar.addi (jOf k) 1#32 = BitVec.ofNat 32 (2 + 3 * k.val)
    ∧ Scalar.addi (jOf k) 2#32 = BitVec.ofNat 32 (3 + 3 * k.val) := by decide

/-- A select on a less-than compare. -/
theorem select_lt {α : Type} (a b : EReal) (x y : α) :
    Scalar.select (FloatOps.cmpf (F := Ideal) (φ := .f32) .olt a b) x y = if a < b then x else y := by
  show (if BitVec.ofBool (decide (a < b)) = 1#1 then x else y) = _
  by_cases h : a < b <;> simp [h]

/-- A least value and chunk number, as words of a lane. -/
def Lane (f : ℕ → EReal) (a b : ℕ) (m : EReal) (w : BitVec 32) : Prop :=
  ∃ j, FirstMin f a b m j ∧ w = BitVec.ofNat 32 j

/-- Least values over two neighbouring ranges join to the least over both, a tie going to the earlier. -/
theorem Lane.join {f : ℕ → EReal} {a b c : ℕ} {m m' : EReal} {w w' : BitVec 32} (h : Lane f a b m w) (h' : Lane f b c m' w') :
    Lane f a c (min m' m) (if m' < m then w' else w) := by
  obtain ⟨j, hj, rfl⟩ := h
  obtain ⟨j', hj', rfl⟩ := h'
  exact ⟨_, hj.join hj', by split_ifs <;> rfl⟩

/-- The least of a trip's three values. -/
theorem least3 (a b : FVec Ideal S512x512 .f32) (x y z : IVec S512x512 32) (c : Vec Ideal S1x512 .f32) (p : Shape.Idx S512x512) :
    k0_pay132 a b x y z c p = min (min (a p) (b p)) (k0_pay130 x y z c p) := by
  sl_kernel_rfl

/-- The chunk of a trip's least value, a tie going to the earlier chunk. -/
theorem least3_at (j : BitVec 32) (a b : FVec Ideal S512x512 .f32) (x y z : IVec S512x512 32) (c : Vec Ideal S1x512 .f32)
    (p : Shape.Idx S512x512) :
    k0_pay133 j a b x y z c p
      = Scalar.select (FloatOps.cmpf (F := Ideal) (φ := .f32) .olt (k0_pay130 x y z c p) (min (a p) (b p)))
          (Scalar.addi j 2#32)
          (Scalar.select (FloatOps.cmpf (F := Ideal) (φ := .f32) .olt (b p) (a p)) (Scalar.addi j 1#32) j) := by
  sl_kernel_rfl

/-- A trip's least value, from its three. -/
theorem tripBest_apply (pre : IVec S512x512 32) (k : Fin k0_t1_loop.trips) (c1 c2 c3 : Vec Ideal S1x512 .f32) (p : Shape.Idx S512x512) :
    tripBest pre k c1 c2 c3 p = min (min (val1 pre k c1 p) (val2 pre k c2 p)) (val3 pre k c3 p) :=
  least3 _ _ _ _ _ _ _

/-- A trip's chunk number, from its three values. -/
theorem tripJ_apply (pre : IVec S512x512 32) (k : Fin k0_t1_loop.trips) (c1 c2 c3 : Vec Ideal S1x512 .f32) (p : Shape.Idx S512x512) :
    tripJ pre k c1 c2 c3 p
      = Scalar.select (FloatOps.cmpf (F := Ideal) (φ := .f32) .olt (val3 pre k c3 p) (min (val1 pre k c1 p) (val2 pre k c2 p)))
          (Scalar.addi (jOf k) 2#32)
          (Scalar.select (FloatOps.cmpf (F := Ideal) (φ := .f32) .olt (val2 pre k c2 p) (val1 pre k c1 p))
            (Scalar.addi (jOf k) 1#32) (jOf k)) :=
  least3_at _ _ _ _ _ _ _ _

/-- One trip's least value and chunk number. -/
theorem trip_lane (i : grid0.Coords) (h3 : k0_cond3 i = 1#1) (nw : Vec Ideal S1x5120 .f32) (b : ℕ) (hb : b < 16)
    (k : Fin k0_t1_loop.trips) (r l : Fin 512) :
    Lane (fun j => cell nw (b * 512 + r) (j * 512 + l)) (1 + 3 * k.val) (1 + 3 * (k.val + 1))
      (bestAt i h3 (k0_pay134 (BitVec.ofNat 32 b)) nw k (ix2 r l)) (jAt i h3 (k0_pay134 (BitVec.ofNat 32 b)) nw k (ix2 r l)) := by
  have hk : k.val < 3 := trips ▸ k.isLt
  have e1 := (val1_apply _ k (chunkAt nw (k0_off1 k) (k0_off1_inb i k h3)) (ix2 r l)).trans
    (entry_apply nw b (1 + 3 * k.val) r l (by omega) _ (jOf_mul k).1 _ _ (off1_eq k))
  have e2 := (val2_apply _ k (chunkAt nw (k0_off2 k 1#32) (k0_off2_inb i k h3 0)) (ix2 r l)).trans
    (entry_apply nw b (2 + 3 * k.val) r l (by omega) _ (jOf_mul k).2.1 _ _ (off2_eq k).1)
  have e3 := (val3_apply _ k (chunkAt nw (k0_off2 k 2#32) (k0_off2_inb i k h3 1)) (ix2 r l)).trans
    (entry_apply nw b (3 + 3 * k.val) r l (by omega) _ (jOf_mul k).2.2 _ _ (off2_eq k).2)
  have one : ∀ j : ℕ, Lane (fun j => cell nw (b * 512 + r) (j * 512 + l)) j (j + 1) (cell nw (b * 512 + r) (j * 512 + l)) (BitVec.ofNat 32 j) :=
    fun j => ⟨j, FirstMin.one (fun j => cell nw (b * 512 + r) (j * 512 + l)) j, rfl⟩
  have L := ((one (1 + 3 * k.val)).join (b := 1 + 3 * k.val + 1) (by
    have := one (2 + 3 * k.val)
    rwa [show 2 + 3 * k.val = 1 + 3 * k.val + 1 by omega] at this)).join (by
    have := one (3 + 3 * k.val)
    rwa [show 3 + 3 * k.val = 1 + 3 * k.val + 1 + 1 by omega] at this)
  have hB : bestAt i h3 (k0_pay134 (BitVec.ofNat 32 b)) nw k (ix2 r l)
      = min (min (cell nw (b * 512 + r) ((1 + 3 * k.val) * 512 + l)) (cell nw (b * 512 + r) ((2 + 3 * k.val) * 512 + l)))
          (cell nw (b * 512 + r) ((3 + 3 * k.val) * 512 + l)) := by
    rw [← e1, ← e2, ← e3]
    exact tripBest_apply ..
  have hJ : jAt i h3 (k0_pay134 (BitVec.ofNat 32 b)) nw k (ix2 r l)
      = if cell nw (b * 512 + r) ((3 + 3 * k.val) * 512 + l)
            < min (cell nw (b * 512 + r) ((1 + 3 * k.val) * 512 + l)) (cell nw (b * 512 + r) ((2 + 3 * k.val) * 512 + l))
          then BitVec.ofNat 32 (3 + 3 * k.val)
          else if cell nw (b * 512 + r) ((2 + 3 * k.val) * 512 + l) < cell nw (b * 512 + r) ((1 + 3 * k.val) * 512 + l)
            then BitVec.ofNat 32 (2 + 3 * k.val) else BitVec.ofNat 32 (1 + 3 * k.val) := by
    rw [← e1, ← e2, ← e3, ← select_lt, ← select_lt, ← jOf_eq, ← (jOf_add k).1, ← (jOf_add k).2]
    exact tripJ_apply ..
  rw [hB, hJ, min_comm, min_comm (cell nw (b * 512 + r) ((1 + 3 * k.val) * 512 + l))]
  rw [show 1 + 3 * (k.val + 1) = 1 + 3 * k.val + 1 + 1 + 1 by omega, show 2 + 3 * k.val = 1 + 3 * k.val + 1 by omega,
    show 3 + 3 * k.val = 1 + 3 * k.val + 1 + 1 by omega]
  exact L

/-- The first chunk's lane. -/
theorem first_lane (i : grid0.Coords) (nw : Vec Ideal S1x5120 .f32) (r l : Fin 512) :
    first i nw (ix2 r l) = cell nw ((i 0).val * 512 + r) (0 * 512 + l) := by
  rw [first_apply]
  exact entry_apply nw (i 0).val 0 r l (by norm_num) 0#32 rfl ![0, 0] inb_S1x5120_S1x512_0_0 rfl

/-- The accumulator keeps the lesser of its value and a trip's. -/
theorem keep_least (a b : FVec Ideal S512x512 .f32) (p : Shape.Idx S512x512) : k0_pay8 a b p = min (a p) (b p) := by
  unfold k0_pay8
  rw [shapeCast_self]
  rfl

/-- The chunk accumulator takes a trip's chunk where the trip's value is less. -/
theorem keep_at (a b : FVec Ideal S512x512 .f32) (x y : IVec S512x512 32) (p : Shape.Idx S512x512) :
    k0_pay9 a x b y p = if a p < b p then x p else y p := by
  unfold k0_pay9
  rw [shapeCast_self, ← select_lt]
  rfl

/-- Before trip `n`, a lane holds the least of its first `1 + 3 n` columns. -/
theorem accs_lane (i : grid0.Coords) (h3 : k0_cond3 i = 1#1) (nw : Vec Ideal S1x5120 .f32) (b : ℕ) (hb : b < 16)
    (r l : Fin 512) (M0 : FVec Ideal S512x512 .f32) (h0 : M0 (ix2 r l) = cell nw (b * 512 + r) (0 * 512 + l)) :
    ∀ n, n ≤ k0_t1_loop.trips → Lane (fun j => cell nw (b * 512 + r) (j * 512 + l)) 0 (1 + 3 * n)
      ((accs i h3 (k0_pay134 (BitVec.ofNat 32 b)) nw M0 k0_pay7 n).1 (ix2 r l))
      ((accs i h3 (k0_pay134 (BitVec.ofNat 32 b)) nw M0 k0_pay7 n).2 (ix2 r l))
  | 0, _ => ⟨0, by
      show FirstMin _ 0 1 (M0 (ix2 r l)) 0
      rw [h0]; exact FirstMin.one (fun j => cell nw (b * 512 + r) (j * 512 + l)) 0, rfl⟩
  | n + 1, hn => by
    have h : n < k0_t1_loop.trips := hn
    have L := (accs_lane i h3 nw b hb r l M0 h0 n h.le).join (trip_lane i h3 nw b hb ⟨n, h⟩ r l)
    rw [accs_succ _ _ _ _ _ _ n h]
    dsimp only
    rw [keep_least, keep_at]
    exact L

end Cert.KernelIdeal.KV
-- ==== Proof.Div20.lean ====
module

public import Idealize.ShloMosaic.PureOps.Vector

/-! Quotient and remainder by 20 on the words of column numbers, as the two programs compute them. -/

@[expose] public section

namespace Cert.Words

open Idealize.ShloMosaic

/-- The sign of a word. -/
def sgn (c : BitVec 32) : BitVec 32 := if c = 0 then 0 else if c.msb then -1 else 1

/-- A word divided by 20, rounded down, as the reference computes it. -/
def div20 (c : BitVec 32) : BitVec 32 :=
  Scalar.select (IntOp.andi (IntOp.cmpi .ne (sgn c) (sgn 20#32)) (IntOp.cmpi .ne (IntOp.remsi .host c 20#32) 0#32))
    (IntOp.subi (IntOp.divsi .host c 20#32) 1#32) (IntOp.divsi .host c 20#32)

/-- A word's remainder by 20, of the sign of 20, as the reference computes it. -/
def rem20 (c : BitVec 32) : BitVec 32 :=
  let d := Scalar.select (IntOp.cmpi .eq 20#32 0#32) 1#32 20#32
  let r := IntOp.remsi .host c d
  Scalar.select (IntOp.andi (IntOp.cmpi .ne (IntOp.cmpi .slt r 0#32) (IntOp.cmpi .slt d 0#32)) (IntOp.cmpi .ne r 0#32)) (IntOp.addi r d) r

/-- On a column number the two are the quotient and the remainder of naturals. -/
theorem div20_rem20 : ∀ c : ℕ, c < 5120 → div20 (BitVec.ofNat 32 c) = BitVec.ofNat 32 (c / 20)
    ∧ rem20 (BitVec.ofNat 32 c) = BitVec.ofNat 32 (c % 20) := by
  decide +kernel

/-- A word divided by 20, rounded down, as the kernel computes it. -/
def kdiv20 (c : BitVec 32) : BitVec 32 :=
  Scalar.select (IntOp.andi (IntOp.cmpi .ne (IntOp.subi (BitVec.setWidth 32 (IntOp.cmpi .sgt c 0#32)) (BitVec.setWidth 32 (IntOp.cmpi .slt c 0#32)))
      (Scalar.subi (Scalar.extui (Scalar.cmpi .sgt 20#32 0#32)) (Scalar.extui (Scalar.cmpi .slt 20#32 0#32))))
      (IntOp.cmpi .ne (IntOp.remsi .vector c 20#32) 0#32))
    (IntOp.subi (IntOp.divsi .vector c 20#32) 1#32) (IntOp.divsi .vector c 20#32)

/-- On a column number the kernel's quotient is that of naturals. -/
theorem kdiv20_eq : ∀ c : ℕ, c < 5120 → kdiv20 (BitVec.ofNat 32 c) = BitVec.ofNat 32 (c / 20) := by
  decide +kernel

end Cert.Words
-- ==== Proof.KRow.lean ====
module

public import proofs.«01_k».proof.Proof.KLane
public import proofs.«01_k».proof.Proof.Div20
public import Idealize.ShloMosaic.Lib.SortNet.Extract

/-!
# The winner of a row

From a row's lanes the kernel takes the least value and, among the lanes that have it, the lowest
column. That is the first least column of all 5120. The column over 20 is the mutated place, and its
remainder the amino acid written there.
-/

@[expose] public section

noncomputable section

namespace Cert.KernelIdeal.KV

open Idealize.ShloMosaic Idealize.ShloMosaic.TcCoe Idealize.ShloMosaic.Tactic Idealize.ShloMosaic.ValueIdx
open Cert.KernelIdeal Cert.KernelIdeal.Gen Cert.Spec

variable [Named Ideal]

/-- The least value of each row. -/
def rowLeast (M : FVec Ideal S512x512 .f32) : FVec Ideal S512 .f32 :=
  multiReduction .minimumf [1] S512 M 0x7F800000#32 reduces_S512x512_S512 (.inl rfl) rfl

/-- The columns a row's winner is chosen from. -/
def cand (M : FVec Ideal S512x512 .f32) (J : IVec S512x512 32) : IVec S512x512 32 :=
  select (cmpf .oeq M (broadcastTo S512x512 (shapeCast S512x1 (rowLeast M) shapeCasts_S512_S512x1) broadcasts_S512x1_S512x512))
    (addi (muli J (broadcast S512x512 512#32)) (iota .tc S512x512 32 [1] iota_S512x512_d1_w32)) (broadcast S512x512 1073741824#32)

/-- An element lies in a row's fold when its first coordinate is the row. -/
theorem mem_row (r : Fin 512) (i : S512x512.Idx) :
    (i ∈ Finset.univ.filter fun i => reduces_S512x512_S512.drop i = ix1 r) ↔ i 0 = r := by
  rw [Finset.mem_filter]
  constructor
  · rintro ⟨-, h⟩
    have := congrArg (fun j : S512.Idx => (j 0).val) h
    exact Fin.ext (((reduces_S512x512_S512.drop_apply_val_of_eq i 0 0).symm.trans this))
  · intro h
    refine ⟨Finset.mem_univ _, funext fun a => ?_⟩
    fin_cases a
    exact Fin.ext ((reduces_S512x512_S512.drop_apply_val_of_eq i 0 0).trans (congrArg Fin.val h))

/-- A place in row `r` is one of its lanes. -/
theorem row_elt (r : Fin 512) (i : S512x512.Idx) (h : i 0 = r) : ∃ l : Fin 512, i = ix2 r l :=
  ⟨i 1, by subst h; exact eq_ix2 i⟩

/-- A candidate column, by its lane. -/
theorem cand_apply (M : FVec Ideal S512x512 .f32) (J : IVec S512x512 32) (r l : Fin 512) :
    cand M J (ix2 r l) = if M (ix2 r l) = rowLeast M (ix1 r) then J (ix2 r l) * 512#32 + BitVec.ofNat 32 l.val else 1073741824#32 := by
  unfold cand
  generalize rowLeast M = m
  rw [select_apply]
  have hb : broadcastTo S512x512 (shapeCast S512x1 m shapeCasts_S512_S512x1) broadcasts_S512x1_S512x512 (ix2 r l) = m (ix1 r) := by
    rw [broadcastTo_apply _ _ _ (ix2 (n0 := 512) (n1 := 1) r 0) (by intro a; fin_cases a <;> rfl),
      shapeCast_apply _ _ _ (ix1 r) (by rw [Shape.rowMajor_val_one, Shape.rowMajor_val_two]; show r.val = r.val * 1 + 0; omega)]
  have hi := iota_single_apply .tc S512x512 32 1 iota_S512x512_d1_w32 (ix2 r l)
  show (if BitVec.ofBool (decide (M (ix2 r l) = broadcastTo S512x512 (shapeCast S512x1 m shapeCasts_S512_S512x1) broadcasts_S512x1_S512x512 (ix2 r l))) = 1#1
    then J (ix2 r l) * 512#32 + iota .tc S512x512 32 [1] iota_S512x512_d1_w32 (ix2 r l) else 1073741824#32) = _
  rw [hb, hi]
  by_cases h : M (ix2 r l) = m (ix1 r) <;> simp [h]

/-- The least of a row is at most each lane and is one of them. -/
theorem rowLeast_spec (M : FVec Ideal S512x512 .f32) (r : Fin 512) :
    (∀ l : Fin 512, (rowLeast M (ix1 r) : EReal) ≤ M (ix2 r l)) ∧ ∃ l : Fin 512, (M (ix2 r l) : EReal) = rowLeast M (ix1 r) := by
  have e : rowLeast M (ix1 r)
      = (Finset.univ.filter fun i => reduces_S512x512_S512.drop i = ix1 r).fold (min : EReal → EReal → EReal) ⊤ M := by
    refine (multiReduction_minimumf_eq_fold M 0x7F800000#32 reduces_S512x512_S512 (.inl rfl) rfl (ix1 r)).trans ?_
    have : (FloatOps.ofBits .f32 0x7F800000#32 : Ideal .f32) = (⊤ : EReal) := by
      show Ideal.ofBits .f32 0x7F800000#32 = ⊤
      simp [Ideal.ofBits, Ideal.ieee]
    rw [this]
    rfl
  have hle : ∀ l : Fin 512, (rowLeast M (ix1 r) : EReal) ≤ M (ix2 r l) := fun l => by
    rw [e]
    exact (Finset.le_fold_min _).mp le_rfl |>.2 _ ((mem_row r _).mpr rfl)
  refine ⟨hle, ?_⟩
  rcases (Finset.fold_min_le _).mp e.ge with h | ⟨i, hi, h⟩
  · exact ⟨0, le_antisymm (le_top.trans h) (hle 0)⟩
  · obtain ⟨l, rfl⟩ := row_elt r i ((mem_row r i).mp hi)
    exact ⟨l, le_antisymm h (hle l)⟩

/-- The lowest candidate of a row, as a signed number. -/
theorem winner_toInt (M : FVec Ideal S512x512 .f32) (J : IVec S512x512 32) (r : Fin 512) :
    (k0_pay10 (F := Ideal) M J (ix2 r 0)).toInt
      = (Finset.univ.filter fun i => reduces_S512x512_S512.drop i = ix1 r).fold (min : ℤ → ℤ → ℤ) 2147483647
          fun i => (cand M J i).toInt := by
  have e : k0_pay10 (F := Ideal) M J
      = shapeCast S512x1 (multiReductionI .minsi [1] S512 (cand M J) 2147483647#32 reduces_S512x512_S512 rfl) shapeCasts_S512_S512x1 := rfl
  rw [e, shapeCast_apply _ _ _ (ix1 r) (by rw [Shape.rowMajor_val_one, Shape.rowMajor_val_two]; show r.val = r.val * 1 + 0; omega)]
  refine (congrArg BitVec.toInt (multiReductionI_eq_fold .minsi (cand M J) 2147483647#32 reduces_S512x512_S512 rfl (ix1 r))).trans ?_
  exact (Finset.fold_hom (op := IntOp.minsi) (op' := (min : ℤ → ℤ → ℤ)) (m := BitVec.toInt) (fun a b => SortNet.toInt_minsi a b)).symm

/-- A word below 2³¹ reads as itself, signed. -/
theorem toInt_small (n : ℕ) (h : n < 2147483648) : (BitVec.ofNat 32 n).toInt = n := by
  rw [BitVec.toInt_eq_toNat_of_lt (by rw [BitVec.toNat_ofNat]; omega), BitVec.toNat_ofNat]
  omega

/-- The winner of a row whose lanes hold the first least of their columns is the first least of the row. -/
theorem winner (g : ℕ → EReal) (M : FVec Ideal S512x512 .f32) (J : IVec S512x512 32) (r : Fin 512)
    (h : ∀ l : Fin 512, Lane (fun j => g (j * 512 + l)) 0 10 (M (ix2 r l)) (J (ix2 r l))) :
    ∃ n, FirstMin g 0 5120 (rowLeast M (ix1 r)) n ∧ k0_pay10 (F := Ideal) M J (ix2 r 0) = BitVec.ofNat 32 n := by
  choose j hj hw using h
  obtain ⟨hle, w, hwm⟩ := rowLeast_spec M r
  have hc : ∀ l : Fin 512, (cand M J (ix2 r l)).toInt
      = if (M (ix2 r l) : EReal) = rowLeast M (ix1 r) then ((j l * 512 + l.val : ℕ) : ℤ) else 1073741824 := fun l => by
    have := (hj l).lt
    have := l.isLt
    rw [cand_apply, hw l]
    split_ifs
    · rw [← BitVec.ofNat_mul, ← BitVec.ofNat_add, toInt_small _ (by omega)]
    · rfl
  have ht := winner_toInt M J r
  set x := k0_pay10 (F := Ideal) M J (ix2 r 0) with hx
  have hxle : ∀ l : Fin 512, (M (ix2 r l) : EReal) = rowLeast M (ix1 r) → x.toInt ≤ ((j l * 512 + l.val : ℕ) : ℤ) := fun l hl => by
    have := ((Finset.le_fold_min _).mp ht.le).2 _ ((mem_row r (ix2 r l)).mpr rfl)
    rwa [hc l, if_pos hl] at this
  have hxw := hxle w hwm
  have hjw := (hj w).lt
  have hwl := w.isLt
  rcases (Finset.fold_min_le _).mp ht.ge with h | ⟨i, hi, h⟩
  · exfalso; omega
  · obtain ⟨l, rfl⟩ := row_elt r i ((mem_row r i).mp hi)
    have hcl := hc l
    by_cases hl : (M (ix2 r l) : EReal) = rowLeast M (ix1 r)
    · rw [if_pos hl] at hcl
      have hxl := hxle l hl
      have hxe : x.toInt = ((j l * 512 + l.val : ℕ) : ℤ) := le_antisymm hxl (hcl ▸ h)
      have hjl := (hj l).lt
      have hll := l.isLt
      refine ⟨j l * 512 + l.val, FirstMin.lanes hj hle hl rfl fun l' hl' => ?_, ?_⟩
      · have := hxle l' hl'
        rw [hxe] at this
        exact_mod_cast this
      · apply BitVec.eq_of_toInt_eq
        rw [hxe, toInt_small _ (by omega)]
    · rw [if_neg hl] at hcl
      exfalso
      have h' : (cand M J (ix2 r l)).toInt ≤ x.toInt := h
      omega

/-- The mutated place, from the winner. -/
theorem place_apply (M : FVec Ideal S512x512 .f32) (J : IVec S512x512 32) (p : S512x1.Idx) :
    k0_pay11 (F := Ideal) M J p = Words.kdiv20 (k0_pay10 (F := Ideal) M J p) := by
  unfold k0_pay11
  generalize k0_pay10 (F := Ideal) M J = x
  rfl

/-- A number less twenty times its quotient is its remainder. -/
theorem remainder (n : ℕ) : BitVec.ofNat 32 n - BitVec.ofNat 32 (n / 20) * 20#32 = BitVec.ofNat 32 (n % 20) := by
  have e : BitVec.ofNat 32 n = BitVec.ofNat 32 (n % 20) + BitVec.ofNat 32 (n / 20) * 20#32 := by
    rw [← BitVec.ofNat_mul, ← BitVec.ofNat_add]
    congr 1
    omega
  rw [e, BitVec.add_sub_cancel]

/-- A step's block: at the mutated place the amino acid, elsewhere the token. -/
theorem out_apply (rc : FVec Ideal S512x512 .f32 × IVec S512x512 32) (tok : IVec S1x256 32) (r : Fin 512) (p : Fin 256)
    (n : ℕ) (hn : n < 5120) (h : k0_pay10 (F := Ideal) rc.1 rc.2 (ix2 r 0) = BitVec.ofNat 32 n) :
    outOf rc tok (ix2 r p) = if p.val = n / 20 then BitVec.ofNat 32 (n % 20) else tok (ix2 0 p) := by
  have hp := place_apply rc.1 rc.2 (ix2 r 0)
  rw [h, Words.kdiv20_eq n hn] at hp
  have h12 : k0_pay12 (F := Ideal) rc.1 rc.2 (ix2 r 0) = BitVec.ofNat 32 (n % 20) := by
    have : k0_pay12 (F := Ideal) rc.1 rc.2 (ix2 r 0)
        = k0_pay10 (F := Ideal) rc.1 rc.2 (ix2 r 0) - k0_pay11 (F := Ideal) rc.1 rc.2 (ix2 r 0) * 20#32 := by
      unfold k0_pay12
      rfl
    rw [this, h, hp]
    exact remainder n
  have h13 : k0_pay13 (F := Ideal) rc.1 rc.2 (ix2 r p) = BitVec.ofBool (decide (p.val = n / 20)) := by
    unfold k0_pay13
    generalize k0_pay11 (F := Ideal) rc.1 rc.2 = y at hp
    have hb : broadcastTo S512x256 y broadcasts_S512x1_S512x256 (ix2 r p) = y (ix2 r 0) :=
      broadcastTo_apply _ _ _ (ix2 (n0 := 512) (n1 := 1) r 0) (by intro a; fin_cases a <;> rfl)
    have hi := iota_single_apply .tc S512x256 32 1 iota_S512x256_d1_w32 (ix2 r p)
    show BitVec.ofBool (iota .tc S512x256 32 [1] iota_S512x256_d1_w32 (ix2 r p) == broadcastTo S512x256 y broadcasts_S512x1_S512x256 (ix2 r p)) = _
    rw [hb, hi, hp]
    show BitVec.ofBool (BitVec.ofNat 32 p.val == BitVec.ofNat 32 (n / 20)) = _
    have hpl := p.isLt
    refine congrArg BitVec.ofBool ?_
    rw [Bool.eq_iff_iff, beq_iff_eq, decide_eq_true_iff]
    constructor
    · intro h
      have := congrArg BitVec.toNat h
      rw [BitVec.toNat_ofNat, BitVec.toNat_ofNat] at this
      omega
    · intro h; rw [h]
  unfold outOf k0_pay5
  rw [shapeCast_self, shapeCast_self, select_apply, h13,
    broadcastTo_apply _ _ _ (ix2 (n0 := 512) (n1 := 1) r 0) (by intro a; fin_cases a <;> rfl),
    broadcastTo_apply _ _ _ (ix2 (n0 := 1) (n1 := 256) 0 p) (by intro a; fin_cases a <;> rfl), h12]
  show (if BitVec.ofBool (decide (p.val = n / 20)) = 1#1 then _ else _) = _
  by_cases h : p.val = n / 20 <;> simp [h]

/-- A block's race, row by row: the winner is the first least column of its position. -/
theorem race_winner (i : grid0.Coords) (h3 : k0_cond3 i = 1#1) (nw : Vec Ideal S1x5120 .f32) (hb : (i 0).val < 16) (r : Fin 512) :
    ∃ m n, FirstMin (cell nw ((i 0).val * 512 + r)) 0 5120 m n
      ∧ k0_pay10 (F := Ideal) (race i h3 nw).1 (race i h3 nw).2 (ix2 r 0) = BitVec.ofNat 32 n := by
  have h := fun l : Fin 512 => accs_lane i h3 nw (i 0).val hb r l (first i nw) (first_lane i nw r l) k0_t1_loop.trips le_rfl
  obtain ⟨n, hn, hw⟩ := winner (cell nw ((i 0).val * 512 + r)) (race i h3 nw).1 (race i h3 nw).2 r fun l => h l
  exact ⟨_, n, hn, hw⟩

end Cert.KernelIdeal.KV
-- ==== Proof.KOut.lean ====
module

public import proofs.«01_k».proof.Proof.KData
public import proofs.«01_k».proof.Proof.KRow
public import Idealize.ShloMosaic.Lib.Pipeline.ValueKit
public import Idealize.ShloMosaic.Lib.StableHlo.RunRead

/-! The kernel's final arrays. -/

@[expose] public section

noncomputable section

namespace Cert.KernelIdeal.KV

open Idealize.ShloMosaic hiding ix1 ix2 ix3
open Idealize.ShloMosaic.TcCoe Idealize.ShloMosaic.Tactic Idealize.ShloMosaic.ValueIdx
open Cert.KernelIdeal Cert.KernelIdeal.Gen Cert.Spec

variable {F : FTy → Type} [FloatOps F] [Named F]
variable (m : (ℓ : Loc nD τ sig) → Buf (Elt F) ℓ)

/-- The result array: each block of 512 rows from its own step's race. -/
def rows (c : Dev nD) : IVec S8192x256 32 := fun i =>
  outOf (raceAt m c ((i 0).val / 512)) (tokOf m c) (ix2 (n0 := 512) (n1 := 256) ⟨(i 0).val % 512, Nat.mod_lt _ (by norm_num)⟩ (i 1))

/-- A step writes back the block of rows of the step before. -/
theorem index_2 : ∀ t : Fin cfg0.N, win0_2.index t 0 = t.val - 1 ∧ win0_2.index t 1 = 0 := by decide +kernel

/-- The mutated tokens' array ends holding the blocks of rows. -/
theorem final_rows (c : Dev nD) : (dats m 0 c).arrAt 2 cfg0.N = rows m c := by
  refine (dats m 0 c).arrAt_eq_of_covers 2 _ (by decide +kernel) fun t hf y => ?_
  blk_simp
  rw [after_2]
  have h0 : ((win0_2.blk t).view.emb y 0 : ℕ) = (t.val - 1) * 512 + (y 0).val := by
    blk_simp
    rw [(index_2 t).1]
  have h1 : ((win0_2.blk t).view.emb y 1 : ℕ) = (y 1).val := by
    blk_simp
    rw [(index_2 t).2]
    omega
  have hy : (y 0).val < 512 := (y 0).isLt
  unfold rows
  rw [show ((win0_2.blk t).view.emb y 0 : ℕ) / 512 = t.val - 1 by omega]
  refine congrArg (outOf (raceAt m c (t.val - 1)) (tokOf m c)) (funext fun a => Fin.ext ?_)
  match a with
  | ⟨0, _⟩ =>
    show (y 0).val = ((win0_2.blk t).view.emb y 0 : ℕ) % 512
    omega
  | ⟨1, _⟩ => exact h1.symm

/-- The softmax's array ends holding the whole block. -/
theorem final_soft (c : Dev nD) : (dats m 0 c).arrAt 3 cfg0.N = k0_pay2 (iblk m c 0 p0) := by
  refine (dats m 0 c).arrAt_eq_of_covers 3 _ (by decide +kernel) fun t hf y => ?_
  blk_simp
  rw [after_3]
  have i0 : ∀ t : Fin cfg0.N, win0_3.index t 0 = 0 ∧ win0_3.index t 1 = 0 := by decide +kernel
  refine congrArg (k0_pay2 (iblk m c 0 p0)) (funext fun a => Fin.ext ?_)
  match a with
  | ⟨0, _⟩ =>
    symm
    show ((win0_3.blk t).view.emb y 0 : ℕ) = (y 0).val
    blk_simp
    rw [(i0 t).1]
  | ⟨1, _⟩ =>
    symm
    show ((win0_3.blk t).view.emb y 1 : ℕ) = (y 1).val
    blk_simp
    rw [(i0 t).2, Nat.zero_mul, Nat.zero_add]

/-- The kernel's row of numbers is the flattened second argument. -/
theorem V_row (c : Dev nD) : (V m c main_call0_v0 : Vec F S1x5120 .f32)
    = shapeCast S1x5120 (m ((c : Thread nD τ).loc main_arg1) : Vec F S256x20 .f32) shapeCasts_S256x20_S1x5120 := by
  show StableHlo.after hostOps0 (fun b => m (c, b)) _ = _
  unfold hostOps0
  after_reads_simp
  rfl

/-- The kernel's table is the first argument, transposed. -/
theorem V_table (c : Dev nD) : (V m c main_call0_v2 : Vec F S20x256 .f32)
    = transpose S20x256 [1, 0] (shapeCast S256x20 (m ((c : Thread nD τ).loc main_arg0) : Vec F S1x256x20 .f32) shapeCasts_S1x256x20_S256x20)
        transposes_S256x20_S20x256_1_0 := by
  show StableHlo.after hostOps0 (fun b => m (c, b)) _ = _
  unfold hostOps0
  after_reads_simp
  rfl

/-- The numbers laid out in one row, read at a column. -/
theorem flat_apply (x : Vec F S256x20 .f32) (k : Fin 5120) :
    shapeCast S1x5120 x shapeCasts_S256x20_S1x5120 (ix2 0 k)
      = x (ix2 ⟨k.val / 20, by have := k.isLt; omega⟩ ⟨k.val % 20, Nat.mod_lt _ (by norm_num)⟩) := by
  refine shapeCast_apply _ _ _ _ ?_
  rw [Shape.rowMajor_val_two, Shape.rowMajor_val_two]
  show k.val / 20 * 20 + k.val % 20 = 0 * 5120 + k.val
  omega

/-- The sequence with positions along the columns, read at an entry. -/
theorem table_apply (x : Vec F S1x256x20 .f32) (a : Fin 20) (p : Fin 256) :
    transpose S20x256 [1, 0] (shapeCast S256x20 x shapeCasts_S1x256x20_S256x20) transposes_S256x20_S20x256_1_0 (ix2 a p)
      = x (ix3 0 p a) := by
  have e2 : transpose S20x256 [1, 0] (shapeCast S256x20 x shapeCasts_S1x256x20_S256x20) transposes_S256x20_S20x256_1_0 (ix2 a p)
      = shapeCast S256x20 x shapeCasts_S1x256x20_S256x20 (ix2 p a) :=
    transpose_apply _ _ _ _ _ fun b => by fin_cases b <;> rfl
  rw [e2]
  refine shapeCast_apply _ _ _ _ ?_
  rw [Shape.rowMajor_val_three, Shape.rowMajor_val_two]
  show (0 * 256 + p.val) * 20 + a.val = p.val * 20 + a.val
  omega

/-- The two input windows take the whole of their arrays at every step. -/
theorem index_0 : ∀ t : Fin cfg0.N, (win0_0.index t 0 = 0 ∧ win0_0.index t 1 = 0) ∧ win0_1.index t 0 = 0 ∧ win0_1.index t 1 = 0 := by decide +kernel

/-- The kernel's first window, at a column. -/
theorem iblk_0_apply (c : Dev nD) (k : Fin 5120) :
    (iblk m c 0 p0 : Vec F S1x5120 .f32) (ix2 0 k)
      = (m ((c : Thread nD τ).loc main_arg1) : Vec F S256x20 .f32) (ix2 ⟨k.val / 20, by have := k.isLt; omega⟩ ⟨k.val % 20, Nat.mod_lt _ (by norm_num)⟩) := by
  have e : (iblk m c 0 p0 : Vec F S1x5120 .f32) (ix2 0 k) = (V m c main_call0_v0 : Vec F S1x5120 .f32) (ix2 0 k) := by
    refine congrArg (V m c main_call0_v0 : Vec F S1x5120 .f32) (funext fun a => Fin.ext ?_)
    match a with
    | ⟨0, _⟩ =>
      show ((win0_0.blk p0).view.emb (ix2 0 k) 0 : ℕ) = 0
      blk_simp
      rw [(index_0 p0).1.1]
    | ⟨1, _⟩ =>
      show ((win0_0.blk p0).view.emb (ix2 0 k) 1 : ℕ) = k.val
      blk_simp
      rw [(index_0 p0).1.2, Nat.zero_mul, Nat.zero_add]
      rfl
  rw [e, V_row]
  exact flat_apply _ k

/-- The kernel's second window, at an entry. -/
theorem iblk_1_apply (c : Dev nD) (a : Fin 20) (p : Fin 256) :
    (iblk m c 1 p0 : Vec F S20x256 .f32) (ix2 a p)
      = (m ((c : Thread nD τ).loc main_arg0) : Vec F S1x256x20 .f32) (ix3 0 p a) := by
  have e : (iblk m c 1 p0 : Vec F S20x256 .f32) (ix2 a p) = (V m c main_call0_v2 : Vec F S20x256 .f32) (ix2 a p) := by
    refine congrArg (V m c main_call0_v2 : Vec F S20x256 .f32) (funext fun b => Fin.ext ?_)
    match b with
    | ⟨0, _⟩ =>
      show ((win0_1.blk p0).view.emb (ix2 a p) 0 : ℕ) = a.val
      blk_simp
      rw [(index_0 p0).2.1, Nat.zero_mul, Nat.zero_add]
      rfl
    | ⟨1, _⟩ =>
      show ((win0_1.blk p0).view.emb (ix2 a p) 1 : ℕ) = p.val
      blk_simp
      rw [(index_0 p0).2.2, Nat.zero_mul, Nat.zero_add]
      rfl
  rw [e, V_table]
  exact table_apply _ a p

/-- After the region's reshape the softmax's result holds the block in one axis. -/
theorem tail_soft (c : Dev nD) : Pipeline.afterTail₀ cfgs (dats m) 0 (V0 m) [hostOps1] c main_v0_1
    = shapeCast S5120 (k0_pay2 (iblk m c 0 p0)) shapeCasts_S1x5120_S5120 := by
  have hw : Pipeline.withArrays spec0 c (V0 m c) (fun w => (dats m 0 c).arrAt w cfg0.N) (Proc.devRef .tc main_call0_v3_1)
      = k0_pay2 (iblk m c 0 p0) := by
    refine Eq.trans ?_ (final_soft m c)
    exact Pipeline.withArrays_arr spec0 (by decide) c _ _ 3
  rw [← hw]
  unfold Pipeline.afterTail₀
  show StableHlo.after hostOps1 (Pipeline.withArrays spec0 c (V0 m c) fun w => (dats m 0 c).arrAt w cfg0.N) (Proc.devRef .tc main_v0_1) = _
  generalize Pipeline.withArrays spec0 c (V0 m c) (fun w => (dats m 0 c).arrAt w cfg0.N) = W
  unfold hostOps1
  after_reads_simp
  rfl

/-- What the kernel's run leaves: the rows, the softmax, the arguments as they were, and no semaphore raised. -/
theorem results (ρ : Dev nD → PrngReg) : θ_run defs (onTc (τ := τ) (main (F := F))) ⟨m, fun _ => 0, ρ⟩ (fun r => ∀ c : Dev nD,
      r.2.mem ((c.tc : Thread nD τ).loc main_v0_0) = rows m c
      ∧ r.2.mem ((c.tc : Thread nD τ).loc main_v0_1) = shapeCast S5120 (k0_pay2 (iblk m c 0 p0)) shapeCasts_S1x5120_S5120) :=
  (θ_run defs _ _).mono (fun _ h c =>
    ⟨((h.1 c).1 2).trans (final_rows m c),
      ((h.1 c).2 main_v0_1 (Pipeline.mem_restRefs_of main_v0_1 (by decide) (by decide))).trans (tail_soft m c)⟩) (run_named m ρ)

end Cert.KernelIdeal.KV
-- ==== Proof.KSoft.lean ====
module

public import proofs.«01_k».proof.Proof.KOut

/-! The kernel's logits, weights, softmax and tokens, read at an element over the extended reals. -/

@[expose] public section

noncomputable section

namespace Cert.KernelIdeal.KV

open Idealize.ShloMosaic hiding ix1 ix2 ix3
open Idealize.ShloMosaic.TcCoe Idealize.ShloMosaic.Tactic Idealize.ShloMosaic.ValueIdx
open Cert.KernelIdeal Cert.KernelIdeal.Gen Cert.Spec

/-- A logit: the number over the temperature. -/
theorem logit_apply (x : Vec Ideal S1x5120 .f32) (k : Fin 5120) :
    k0_pay1 x (ix2 0 k) = scaled (x (ix2 0 k)) := by
  unfold k0_pay1
  rw [shapeCast_self]
  exact congrArg (fun v : EReal => x (ix2 0 k) * v) (IdealRules.named_const.ideal_named_scalar _ _ _ _ rfl)

/-- A column's negative weight. -/
theorem weight_apply (x : Vec Ideal S1x5120 .f32) (k : Fin 5120) :
    k0_pay3 x (ix2 0 k) = (0 : EReal) - Ideal.exp (0 - k0_pay1 x (ix2 0 k)) := by
  unfold k0_pay3
  rw [shapeCast_self]
  generalize k0_pay1 x = y
  show Ideal.ofBits .f32 0x00000000#32 - Ideal.exp (Ideal.ofBits .f32 0x00000000#32 - y (ix2 0 k)) = _
  rw [Ideal.ofBits_zero_f32]

/-- The columns as the indices of the three-axis row. -/
def cols : Fin 5120 ≃ S1x1x5120.Idx where
  toFun k := ix3 0 0 k
  invFun i := i 2
  left_inv _ := rfl
  right_inv i := funext fun a => by
    fin_cases a
    · exact Subsingleton.elim (α := Fin 1) _ _
    · exact Subsingleton.elim (α := Fin 1) _ _
    · rfl

/-- The row under a further axis, read at a column. -/
theorem row3_apply (x : FVec Ideal S1x5120 .f32) (k : Fin 5120) :
    shapeCast S1x1x5120 x shapeCasts_S1x5120_S1x1x5120 (cols k) = x (ix2 0 k) := by
  refine shapeCast_apply _ _ _ _ ?_
  rw [Shape.rowMajor_val_two]
  show _ = ((Shape.rowMajor S1x1x5120) (ix3 (n0 := 1) (n1 := 1) (n2 := 5120) 0 0 k)).val
  rw [Shape.rowMajor_val_three]
  show 0 * 5120 + k.val = (0 * 1 + 0) * 5120 + k.val
  omega

/-- The kernel's greatest logit is the greatest of the row. -/
theorem max_apply (x : FVec Ideal S1x5120 .f32) (j : S1.Idx) :
    multiReduction .maximumf [1, 2] S1 (shapeCast S1x1x5120 x shapeCasts_S1x5120_S1x1x5120) 0xFF800000#32
        reduces_S1x1x5120_S1 (.inl rfl) rfl j
      = top fun k => x (ix2 0 k) := by
  refine (multiReduction_maximumf_eq_fold _ _ reduces_S1x1x5120_S1 (.inl rfl) rfl j).trans ?_
  have hb : (FloatOps.ofBits .f32 (FKind.maximumf.neutral .f32 (.inl rfl)) : Ideal .f32) = (⊥ : EReal) := by
    show Ideal.ofBits .f32 0xFF800000#32 = ⊥
    simp [Ideal.ofBits, Ideal.ieee]
  rw [hb]
  refine fold_top _ _ _ (fun i _ => ⟨cols.symm i, ?_⟩) fun k => ⟨cols k, ?_, row3_apply x k⟩
  · rw [← row3_apply x, Equiv.apply_symm_apply]
  · rw [Finset.mem_filter]
    refine ⟨Finset.mem_univ _, funext fun a => ?_⟩
    fin_cases a
    exact Subsingleton.elim (α := Fin 1) _ _

/-- The kernel's sum over the row is the sum of its columns. -/
theorem sum_apply (x : FVec Ideal S1x5120 .f32) (j : S1.Idx) :
    multiReduction .add [1, 2] S1 (shapeCast S1x1x5120 x shapeCasts_S1x5120_S1x1x5120) 0x00000000#32
        reduces_S1x1x5120_S1 (.inl rfl) rfl j
      = (∑ k : Fin 5120, x (ix2 0 k) : EReal) := by
  refine (Ideal.multiReduction_add_total _ _ reduces_S1x1x5120_S1 (by decide) (.inl rfl) rfl j).trans ?_
  exact (Fintype.sum_equiv cols _ _ fun k => (row3_apply x k).symm).symm

/-- The kernel's softmax. -/
theorem softmax_apply (x : Vec Ideal S1x5120 .f32) (k : Fin 5120) :
    k0_pay2 x (ix2 0 k) = soft (fun k => k0_pay1 x (ix2 0 k)) k := by
  unfold k0_pay2
  generalize k0_pay1 x = y
  have hm : ∀ v : FVec Ideal S1 .f32, extractAt ![0, 0, 0] (shapeCast S1x1x1 v shapeCasts_S1_S1x1x1) inpos_S1x1x1_p0_0_0 = v (ix1 0) := fun v => by
    unfold extractAt
    exact congrArg v (funext fun a => by fin_cases a; exact Subsingleton.elim (α := Fin 1) _ _)
  have he : ∀ v : EReal, (exp (subf y (broadcast S1x5120 (v : Ideal .f32))) : FVec Ideal S1x5120 .f32) = fun i => Ideal.exp (y i - v) := fun _ => rfl
  have hd : ∀ (a : FVec Ideal S1x5120 .f32) (b : EReal), divf a (broadcast S1x5120 (b : Ideal .f32)) (ix2 0 k) = Ideal.div (a (ix2 0 k)) b := fun _ _ => rfl
  refine (hd _ _).trans ?_
  unfold soft
  rw [hm, hm, max_apply, he, sum_apply]

/-- The word of a one-hot row's index. -/
theorem token_apply (x : Vec Ideal S20x256 .f32) (p : Fin 256) (a : Fin 20)
    (h : ∀ b : Fin 20, x (ix2 b p) = if b = a then (1 : EReal) else 0) :
    k0_pay4 x (ix2 0 p) = BitVec.ofNat 32 a.val := by
  have hs : (multiReduction .add [0] S256 (mulf (shapeCast S20x256 x shapeCasts_S20x256_S20x256)
        (sitofp .f32 (iota .tc S20x256 32 [0] iota_S20x256_d0_w32) : FVec Ideal S20x256 .f32)) 0x00000000#32 reduces_S20x256_S256 (.inl rfl) rfl (ix1 p) : EReal)
      = ((a.val : ℝ) : EReal) := by
    refine (Ideal.multiReduction_add_single _ _ reduces_S20x256_S256 (.inl rfl) rfl (ix1 p)).trans ?_
    have ht : ∀ b : Fin 20, (mulf (shapeCast S20x256 x shapeCasts_S20x256_S20x256)
        (sitofp .f32 (iota .tc S20x256 32 [0] iota_S20x256_d0_w32) : FVec Ideal S20x256 .f32)) (reduces_S20x256_S256.lift (ix1 p) b)
        = if b = a then ((a.val : ℝ) : EReal) else 0 := fun b => by
      have hl : reduces_S20x256_S256.lift (ix1 p) b = ix2 b p := funext fun c => by fin_cases c <;> rfl
      rw [hl, shapeCast_self]
      have hi := iota_single_apply .tc S20x256 32 0 iota_S20x256_d0_w32 (ix2 b p)
      show x (ix2 b p) * ((((iota .tc S20x256 32 [0] iota_S20x256_d0_w32 (ix2 b p)).toInt : ℝ)) : EReal) = _
      rw [hi, h b]
      show (if b = a then (1 : EReal) else 0) * (((BitVec.ofNat 32 b.val).toInt : ℝ) : EReal) = _
      rw [toInt_small _ (by have := b.isLt; omega)]
      split_ifs with e
      · subst e; rw [one_mul]; norm_cast
      · rw [zero_mul]
    exact (Finset.sum_congr rfl fun b _ => ht b).trans (Fintype.sum_ite_eq' (ι := Fin 20) a fun _ => ((a.val : ℝ) : EReal))
  unfold k0_pay4
  rw [shapeCast_self]
  show Ideal.fptosi 32 (shapeCast S1x256 _ shapeCasts_S256_S1x256 (ix2 0 p)) = _
  rw [shapeCast_apply _ _ _ (ix1 p) (by rw [Shape.rowMajor_val_one, Shape.rowMajor_val_two]; show p.val = 0 * 256 + p.val; omega)]
  rw [hs]
  have ha := a.isLt
  unfold Ideal.fptosi
  have : Ideal.toIntClamped (-(2 ^ (32 - 1) : ℕ)) ((2 ^ (32 - 1) : ℕ) - 1) ((a.val : ℝ) : EReal) = (a.val : ℤ) := by
    show max _ (min _ (if (0 : ℝ) ≤ (a.val : ℝ) then ⌊(a.val : ℝ)⌋ else ⌈(a.val : ℝ)⌉)) = _
    rw [if_pos (by positivity), Int.floor_natCast]
    norm_num
    omega
  rw [this]
  exact BitVec.ofInt_natCast _ _

end Cert.KernelIdeal.KV
-- ==== Proof.KFinal.lean ====
module

public import proofs.«01_k».proof.Proof.KSoft
public import proofs.«01_k».proof.Proof.KRow

/-! The kernel's results over the extended reals, as functions of its arguments. -/

@[expose] public section

noncomputable section

namespace Cert.KernelIdeal.KV

open Idealize.ShloMosaic hiding ix1 ix2 ix3
open Idealize.ShloMosaic.TcCoe Idealize.ShloMosaic.Tactic Idealize.ShloMosaic.ValueIdx
open Cert.KernelIdeal Cert.KernelIdeal.Gen Cert.Spec

attribute [local irreducible] Words.bits Words.hash unif

/-- The logits of the numbers `y`, laid out in one row. -/
def logits (y : FVec Ideal S256x20 .f32) (k : Fin 5120) : EReal :=
  scaled (y (ix2 (n0 := 256) (n1 := 20) ⟨k.val / 20, by have := k.isLt; omega⟩ ⟨k.val % 20, Nat.mod_lt _ (by norm_num)⟩))

/-- A logit of a number below +∞ is below +∞. -/
theorem scaled_lt (x : EReal) (h : x < ⊤) : scaled x < ⊤ := by
  unfold scaled
  induction x using EReal.rec with
  | bot => rw [EReal.bot_mul_coe_of_pos (by norm_num)]; exact bot_lt_top
  | coe r => rw [← EReal.coe_mul]; exact EReal.coe_lt_top _
  | top => exact absurd h (lt_irrefl _)

/-- Logits of numbers below +∞ are below +∞. -/
theorem logits_lt (y : FVec Ideal S256x20 .f32) (h : ∀ i, y i < (⊤ : EReal)) (k : Fin 5120) : logits y k < ⊤ :=
  scaled_lt _ (h _)

/-- A step's first coordinate is its number. -/
theorem coords_val : ∀ t : Fin cfg0.N, (grid0.coords t 0).val = t.val := by decide +kernel

variable (m : (ℓ : Loc nD τ sig) → Buf (Elt Ideal) ℓ)

/-- A column's logit, from the kernel's second argument. -/
theorem pay1_apply (c : Dev nD) (k : Fin 5120) :
    k0_pay1 (iblk m c 0 p0) (ix2 0 k) = logits (m ((c : Thread nD τ).loc main_arg1)) k :=
  (logit_apply _ k).trans (congrArg scaled (iblk_0_apply m c k))

/-- A column's race value, from the kernel's second argument. -/
theorem cell_eq (c : Dev nD) (R k : ℕ) : cell (nwOf m c) R k
    = raced (unif (BitVec.ofNat 32 (5120 * R + k) + 42#32))
        (if h : k < 5120 then logits (m ((c : Thread nD τ).loc main_arg1)) ⟨k, h⟩ else 0)
      ∨ 5120 ≤ k := by
  by_cases h : k < 5120
  · left
    unfold cell raced ctrN
    rw [dif_pos h, dif_pos h]
    exact congrArg (fun v : EReal => Ideal.log (unif (BitVec.ofNat 32 (5120 * R + k) + 42#32)) * v)
      ((weight_apply _ _).trans (by rw [pay1_apply]))
  · exact .inr (not_lt.mp h)

/-- Every row of the result has a winning column: the first of least race value. -/
theorem row_winner (c : Dev nD) (R : ℕ) (hR : R < 8192) : ∃ n,
    (∃ v, FirstMin (fun k => raced (unif (BitVec.ofNat 32 (5120 * R + k) + 42#32))
        (if h : k < 5120 then logits (m ((c : Thread nD τ).loc main_arg1)) ⟨k, h⟩ else 0)) 0 5120 v n)
      ∧ k0_pay10 (F := Ideal) (raceAt m c (R / 512)).1 (raceAt m c (R / 512)).2
          (ix2 (n0 := 512) (n1 := 1) ⟨R % 512, Nat.mod_lt _ (by norm_num)⟩ 0) = BitVec.ofNat 32 n := by
  have hi : (grid0.coords (rp (R / 512)) 0).val = R / 512 := by
    rw [coords_val]
    show min (R / 512) 15 = R / 512
    omega
  obtain ⟨v, n, hf, hw⟩ := race_winner (grid0.coords (rp (R / 512))) ((at_race (rp (R / 512))).mpr (by
    show min (R / 512) 15 < 16
    omega)) (nwOf m c) (by omega) ⟨R % 512, Nat.mod_lt _ (by norm_num)⟩
  refine ⟨n, ⟨v, hf.congr fun k _ hk => ?_⟩, hw⟩
  have e : (grid0.coords (rp (R / 512)) 0).val * 512 + R % 512 = R := by omega
  show cell (nwOf m c) ((grid0.coords (rp (R / 512)) 0).val * 512 + R % 512) k = _
  rw [e]
  exact (cell_eq m c R k).resolve_right (by omega)

/-- The mutated rows: a row's winning column names the position that changes and the token it changes to; the other
    positions keep the token of their one-hot row. -/
theorem rows_eq (c : Dev nD) (a : Fin 256 → Fin 20)
    (ha : ∀ t b, (m ((c : Thread nD τ).loc main_arg0) : FVec Ideal S1x256x20 .f32) (ix3 0 t b) = if b = a t then (1 : EReal) else 0) :
    ∃ n : ℕ → ℕ, (∀ r, r < 8192 → ∃ v, FirstMin (fun k => raced (unif (BitVec.ofNat 32 (5120 * r + k) + 42#32))
        (if h : k < 5120 then logits (m ((c : Thread nD τ).loc main_arg1)) ⟨k, h⟩ else 0)) 0 5120 v (n r))
      ∧ ∀ (r : Fin 8192) (p : Fin 256), rows m c (ix2 r p)
          = if p.val = n r.val / 20 then BitVec.ofNat 32 (n r.val % 20) else BitVec.ofNat 32 (a p).val := by
  have h : ∀ R, ∃ n, ∀ _ : R < 8192,
      (∃ v, FirstMin (fun k => raced (unif (BitVec.ofNat 32 (5120 * R + k) + 42#32))
        (if h : k < 5120 then logits (m ((c : Thread nD τ).loc main_arg1)) ⟨k, h⟩ else 0)) 0 5120 v n)
      ∧ k0_pay10 (F := Ideal) (raceAt m c (R / 512)).1 (raceAt m c (R / 512)).2
          (ix2 (n0 := 512) (n1 := 1) ⟨R % 512, Nat.mod_lt _ (by norm_num)⟩ 0) = BitVec.ofNat 32 n := fun R => by
    by_cases hR : R < 8192
    · obtain ⟨n, hn⟩ := row_winner m c R hR
      exact ⟨n, fun _ => hn⟩
    · exact ⟨0, fun h => absurd h hR⟩
  choose n hn using h
  refine ⟨n, fun r hr => (hn r hr).1, fun r p => ?_⟩
  obtain ⟨⟨v, hf⟩, hw⟩ := hn r.val r.isLt
  have ht : tokOf m c (ix2 0 p) = BitVec.ofNat 32 (a p).val :=
    token_apply _ p (a p) fun b => (iblk_1_apply m c b p).trans (ha p b)
  refine (out_apply (raceAt m c (r.val / 512)) (tokOf m c) ⟨r.val % 512, Nat.mod_lt _ (by norm_num)⟩ p (n r.val) hf.lt hw).trans ?_
  rw [ht]

/-- The softmax of the logits. -/
theorem softmax_eq (c : Dev nD) (k : Fin 5120) :
    (shapeCast S5120 (k0_pay2 (iblk m c 0 p0)) shapeCasts_S1x5120_S5120 : FVec Ideal S5120 .f32) (ix1 k)
      = soft (logits (m ((c : Thread nD τ).loc main_arg1))) k := by
  refine (shapeCast_apply _ _ _ (ix2 0 k) ?_).trans ((softmax_apply _ k).trans ?_)
  · rw [Shape.rowMajor_val_two, Shape.rowMajor_val_one]
    show 0 * 5120 + k.val = k.val
    omega
  · exact congrArg (fun s => soft s k) (funext fun j => pay1_apply m c j)

end Cert.KernelIdeal.KV
-- ==== Proof.RRun.lean ====
module

public import proofs.«01_k».proof.Proof.Gen.ReferenceIdeal
public import Idealize.ShloMosaic.Lib.StableHlo.RunHlo
public import Idealize.ShloMosaic.Lib.StableHlo.RunRead
public import Idealize.ShloMosaic.Lib.Claim

/-! The reference program as a straight line of array operations, in groups, and its run. -/

@[expose] public section

set_option maxRecDepth 65536

noncomputable section

namespace Cert.ReferenceIdeal.RV

open Cert.ReferenceIdeal Cert.ReferenceIdeal.Gen
open Idealize.ShloMosaic Idealize.ShloMosaic.TcCoe Idealize.ShloMosaic.StableHlo Idealize.SL.Sem

variable {F : FTy → Type} [FloatOps F]

/-- The operations of the softmax of the scaled logits. -/
abbrev opsSoft : List (HloOp τ sig (Elt F)) :=
  [ reshape main_arg1 main_v0 (rfl : (.f32 : EltTy) = .f32) shapeCasts_S256x20_S5120,
    nullary main_cst (constant S_ .f32 0x3DCCCCCD#32),
    unary main_cst main_v1 (broadcastInDim S5120 ![] bcast_S_S5120),
    binary main_v0 main_v1 main_v2 (Host.divf),
    nullary main_cst_0 (constant S_ .f32 0xFF800000#32),
    binary main_v2 main_cst_0 main_v3 ((fun x v => Host.reduce FloatOps.maximumf x v reducesTo_S5120_S_d0 h_S_)),
    nullary main_cst_1 (constant S_ .f32 0xFF800000#32),
    binary main_cst_1 main_v3 main_v4 (maximumf),
    unary main_v4 main_v5 (broadcastInDim S1 ![] bcast_S_S1),
    unary main_v5 main_v6 (broadcastInDim S5120 ![0] bcast_S1_S5120_0),
    binary main_v2 main_v6 main_v7 (subf),
    unary main_v7 main_v8 (Host.exp),
    nullary main_cst_2 (constant S_ .f32 0x00000000#32),
    binary main_v8 main_cst_2 main_v9 ((fun x v => Host.reduceAdd x v reducesTo_S5120_S_d0 h_S_)),
    unary main_v9 main_v10 (broadcastInDim S1 ![] bcast_S_S1),
    unary main_v10 main_v11 (broadcastInDim S5120 ![0] bcast_S1_S5120_0),
    binary main_v8 main_v11 main_v12 (Host.divf) ]

/-- The operations of the key schedule and the counters. -/
abbrev opsKey : List (HloOp τ sig (Elt F)) :=
  [ nullary main_c (constantI S_ 32 42#32),
    nullary main_c_3 (constantI S_ 32 32#32),
    binary main_c main_c_3 main_v13 (Host.shrui),
    unary main_v13 main_v14 (id),
    unary main_v14 main_v15 (broadcastInDim S1 ![] bcast_S_S1),
    nullary main_c_4 (constantI S_ 32 4294967295#32),
    binary main_c main_c_4 main_v16 (andi),
    unary main_v16 main_v17 (id),
    unary main_v17 main_v18 (broadcastInDim S1 ![] bcast_S_S1),
    binary main_v15 main_v18 main_v19 ((fun a b => concatenate S2 0 [⟨S1, a⟩, ⟨S1, b⟩] concatenates_S1_S1_S2_d0)),
    nullary main_cst_5 (constant S_ .f32 0x00000000#32),
    nullary main_cst_6 (constant S_ .f32 0x3F800000#32),
    unary main_cst_5 main_call0_v0 id,
    unary main_cst_6 main_call0_v1 id,
    unary main_call0_v0 main_call0_v2 (broadcastInDim S1x1 ![] bcast_S_S1x1),
    unary main_call0_v1 main_call0_v3 (broadcastInDim S1x1 ![] bcast_S_S1x1),
    unary main_v19 main_call0_v4 (extractStridedSlice S1 ![0] · slices_S2_S1_0),
    reshape main_call0_v4 main_call0_v5 (rfl : (.i32 : EltTy) = .i32) shapeCasts_S1_S_,
    unary main_v19 main_call0_v6 (extractStridedSlice S1 ![1] · slices_S2_S1_1),
    reshape main_call0_v6 main_call0_v7 (rfl : (.i32 : EltTy) = .i32) shapeCasts_S1_S_,
    nullary main_call0_v8 (iotaInDim S8192x5120 64 0),
    nullary main_call0_v9 (iotaInDim S8192x5120 64 1),
    nullary main_call0_c (constantI S_ 64 5120#64),
    unary main_call0_c main_call0_v10 (broadcastInDim S8192x5120 ![] bcast_S_S8192x5120),
    binary main_call0_v10 main_call0_v8 main_call0_v11 muli,
    nullary main_call0_c_0 (constantI S_ 64 1#64),
    unary main_call0_c_0 main_call0_v12 (broadcastInDim S8192x5120 ![] bcast_S_S8192x5120),
    binary main_call0_v12 main_call0_v9 main_call0_v13 muli,
    binary main_call0_v11 main_call0_v13 main_call0_v14 addi,
    nullary main_call0_c_1 (constantI S_ 64 32#64),
    unary main_call0_c_1 main_call0_v15 (broadcastInDim S8192x5120 ![] bcast_S_S8192x5120),
    binary main_call0_v14 main_call0_v15 main_call0_v16 Host.shrui,
    unary main_call0_v14 main_call0_v17 (trunci 32 · natLt_32_64),
    unary main_call0_v16 main_call0_v18 (trunci 32 · natLt_32_64),
    binary main_call0_v5 main_call0_v7 main_call0_call0_v0 xori,
    nullary main_call0_call0_c (constantI S_ 32 466688986#32),
    binary main_call0_call0_v0 main_call0_call0_c main_call0_call0_v1 xori,
    unary main_call0_v5 main_call0_call0_v2 (broadcastInDim S8192x5120 ![] bcast_S_S8192x5120),
    binary main_call0_v18 main_call0_call0_v2 main_call0_call0_v3 addi,
    unary main_call0_v7 main_call0_call0_v4 (broadcastInDim S8192x5120 ![] bcast_S_S8192x5120),
    binary main_call0_v17 main_call0_call0_v4 main_call0_call0_v5 addi ]

/-- The operations of group 1 of the counter hash: four rounds and a key injection. -/
abbrev opsT0 : List (HloOp τ sig (Elt F)) :=
  [ binary main_call0_call0_v3 main_call0_call0_v5 main_call0_call0_v6 addi,
    nullary main_call0_call0_c_0 (constantI S_ 32 13#32),
    unary main_call0_call0_c_0 main_call0_call0_v7 (broadcastInDim S8192x5120 ![] bcast_S_S8192x5120),
    binary main_call0_call0_v5 main_call0_call0_v7 main_call0_call0_v8 Host.shli,
    nullary main_call0_call0_c_1 (constantI S_ 32 19#32),
    unary main_call0_call0_c_1 main_call0_call0_v9 (broadcastInDim S8192x5120 ![] bcast_S_S8192x5120),
    binary main_call0_call0_v5 main_call0_call0_v9 main_call0_call0_v10 Host.shrui,
    binary main_call0_call0_v8 main_call0_call0_v10 main_call0_call0_v11 ori,
    binary main_call0_call0_v6 main_call0_call0_v11 main_call0_call0_v12 xori,
    binary main_call0_call0_v6 main_call0_call0_v12 main_call0_call0_v13 addi,
    nullary main_call0_call0_c_2 (constantI S_ 32 15#32),
    unary main_call0_call0_c_2 main_call0_call0_v14 (broadcastInDim S8192x5120 ![] bcast_S_S8192x5120),
    binary main_call0_call0_v12 main_call0_call0_v14 main_call0_call0_v15 Host.shli,
    nullary main_call0_call0_c_3 (constantI S_ 32 17#32),
    unary main_call0_call0_c_3 main_call0_call0_v16 (broadcastInDim S8192x5120 ![] bcast_S_S8192x5120),
    binary main_call0_call0_v12 main_call0_call0_v16 main_call0_call0_v17 Host.shrui,
    binary main_call0_call0_v15 main_call0_call0_v17 main_call0_call0_v18 ori,
    binary main_call0_call0_v13 main_call0_call0_v18 main_call0_call0_v19 xori,
    binary main_call0_call0_v13 main_call0_call0_v19 main_call0_call0_v20 addi,
    nullary main_call0_call0_c_4 (constantI S_ 32 26#32),
    unary main_call0_call0_c_4 main_call0_call0_v21 (broadcastInDim S8192x5120 ![] bcast_S_S8192x5120),
    binary main_call0_call0_v19 main_call0_call0_v21 main_call0_call0_v22 Host.shli,
    nullary main_call0_call0_c_5 (constantI S_ 32 6#32),
    unary main_call0_call0_c_5 main_call0_call0_v23 (broadcastInDim S8192x5120 ![] bcast_S_S8192x5120),
    binary main_call0_call0_v19 main_call0_call0_v23 main_call0_call0_v24 Host.shrui,
    binary main_call0_call0_v22 main_call0_call0_v24 main_call0_call0_v25 ori,
    binary main_call0_call0_v20 main_call0_call0_v25 main_call0_call0_v26 xori,
    binary main_call0_call0_v20 main_call0_call0_v26 main_call0_call0_v27 addi,
    nullary main_call0_call0_c_6 (constantI S_ 32 6#32),
    unary main_call0_call0_c_6 main_call0_call0_v28 (broadcastInDim S8192x5120 ![] bcast_S_S8192x5120),
    binary main_call0_call0_v26 main_call0_call0_v28 main_call0_call0_v29 Host.shli,
    nullary main_call0_call0_c_7 (constantI S_ 32 26#32),
    unary main_call0_call0_c_7 main_call0_call0_v30 (broadcastInDim S8192x5120 ![] bcast_S_S8192x5120),
    binary main_call0_call0_v26 main_call0_call0_v30 main_call0_call0_v31 Host.shrui,
    binary main_call0_call0_v29 main_call0_call0_v31 main_call0_call0_v32 ori,
    binary main_call0_call0_v27 main_call0_call0_v32 main_call0_call0_v33 xori,
    unary main_call0_v7 main_call0_call0_v34 (broadcastInDim S8192x5120 ![] bcast_S_S8192x5120),
    binary main_call0_call0_v27 main_call0_call0_v34 main_call0_call0_v35 addi,
    unary main_call0_call0_v1 main_call0_call0_v36 (broadcastInDim S8192x5120 ![] bcast_S_S8192x5120),
    binary main_call0_call0_v33 main_call0_call0_v36 main_call0_call0_v37 addi,
    nullary main_call0_call0_c_8 (constantI S_ 32 1#32),
    unary main_call0_call0_c_8 main_call0_call0_v38 (broadcastInDim S8192x5120 ![] bcast_S_S8192x5120),
    binary main_call0_call0_v37 main_call0_call0_v38 main_call0_call0_v39 addi ]

/-- The operations of group 2 of the counter hash: four rounds and a key injection. -/
abbrev opsT1 : List (HloOp τ sig (Elt F)) :=
  [ binary main_call0_call0_v35 main_call0_call0_v39 main_call0_call0_v40 addi,
    nullary main_call0_call0_c_9 (constantI S_ 32 17#32),
    unary main_call0_call0_c_9 main_call0_call0_v41 (broadcastInDim S8192x5120 ![] bcast_S_S8192x5120),
    binary main_call0_call0_v39 main_call0_call0_v41 main_call0_call0_v42 Host.shli,
    nullary main_call0_call0_c_10 (constantI S_ 32 15#32),
    unary main_call0_call0_c_10 main_call0_call0_v43 (broadcastInDim S8192x5120 ![] bcast_S_S8192x5120),
    binary main_call0_call0_v39 main_call0_call0_v43 main_call0_call0_v44 Host.shrui,
    binary main_call0_call0_v42 main_call0_call0_v44 main_call0_call0_v45 ori,
    binary main_call0_call0_v40 main_call0_call0_v45 main_call0_call0_v46 xori,
    binary main_call0_call0_v40 main_call0_call0_v46 main_call0_call0_v47 addi,
    nullary main_call0_call0_c_11 (constantI S_ 32 29#32),
    unary main_call0_call0_c_11 main_call0_call0_v48 (broadcastInDim S8192x5120 ![] bcast_S_S8192x5120),
    binary main_call0_call0_v46 main_call0_call0_v48 main_call0_call0_v49 Host.shli,
    nullary main_call0_call0_c_12 (constantI S_ 32 3#32),
    unary main_call0_call0_c_12 main_call0_call0_v50 (broadcastInDim S8192x5120 ![] bcast_S_S8192x5120),
    binary main_call0_call0_v46 main_call0_call0_v50 main_call0_call0_v51 Host.shrui,
    binary main_call0_call0_v49 main_call0_call0_v51 main_call0_call0_v52 ori,
    binary main_call0_call0_v47 main_call0_call0_v52 main_call0_call0_v53 xori,
    binary main_call0_call0_v47 main_call0_call0_v53 main_call0_call0_v54 addi,
    nullary main_call0_call0_c_13 (constantI S_ 32 16#32),
    unary main_call0_call0_c_13 main_call0_call0_v55 (broadcastInDim S8192x5120 ![] bcast_S_S8192x5120),
    binary main_call0_call0_v53 main_call0_call0_v55 main_call0_call0_v56 Host.shli,
    nullary main_call0_call0_c_14 (constantI S_ 32 16#32),
    unary main_call0_call0_c_14 main_call0_call0_v57 (broadcastInDim S8192x5120 ![] bcast_S_S8192x5120),
    binary main_call0_call0_v53 main_call0_call0_v57 main_call0_call0_v58 Host.shrui,
    binary main_call0_call0_v56 main_call0_call0_v58 main_call0_call0_v59 ori,
    binary main_call0_call0_v54 main_call0_call0_v59 main_call0_call0_v60 xori,
    binary main_call0_call0_v54 main_call0_call0_v60 main_call0_call0_v61 addi,
    nullary main_call0_call0_c_15 (constantI S_ 32 24#32),
    unary main_call0_call0_c_15 main_call0_call0_v62 (broadcastInDim S8192x5120 ![] bcast_S_S8192x5120),
    binary main_call0_call0_v60 main_call0_call0_v62 main_call0_call0_v63 Host.shli,
    nullary main_call0_call0_c_16 (constantI S_ 32 8#32),
    unary main_call0_call0_c_16 main_call0_call0_v64 (broadcastInDim S8192x5120 ![] bcast_S_S8192x5120),
    binary main_call0_call0_v60 main_call0_call0_v64 main_call0_call0_v65 Host.shrui,
    binary main_call0_call0_v63 main_call0_call0_v65 main_call0_call0_v66 ori,
    binary main_call0_call0_v61 main_call0_call0_v66 main_call0_call0_v67 xori,
    unary main_call0_call0_v1 main_call0_call0_v68 (broadcastInDim S8192x5120 ![] bcast_S_S8192x5120),
    binary main_call0_call0_v61 main_call0_call0_v68 main_call0_call0_v69 addi,
    unary main_call0_v5 main_call0_call0_v70 (broadcastInDim S8192x5120 ![] bcast_S_S8192x5120),
    binary main_call0_call0_v67 main_call0_call0_v70 main_call0_call0_v71 addi,
    nullary main_call0_call0_c_17 (constantI S_ 32 2#32),
    unary main_call0_call0_c_17 main_call0_call0_v72 (broadcastInDim S8192x5120 ![] bcast_S_S8192x5120),
    binary main_call0_call0_v71 main_call0_call0_v72 main_call0_call0_v73 addi ]

/-- The operations of group 3 of the counter hash: four rounds and a key injection. -/
abbrev opsT2 : List (HloOp τ sig (Elt F)) :=
  [ binary main_call0_call0_v69 main_call0_call0_v73 main_call0_call0_v74 addi,
    nullary main_call0_call0_c_18 (constantI S_ 32 13#32),
    unary main_call0_call0_c_18 main_call0_call0_v75 (broadcastInDim S8192x5120 ![] bcast_S_S8192x5120),
    binary main_call0_call0_v73 main_call0_call0_v75 main_call0_call0_v76 Host.shli,
    nullary main_call0_call0_c_19 (constantI S_ 32 19#32),
    unary main_call0_call0_c_19 main_call0_call0_v77 (broadcastInDim S8192x5120 ![] bcast_S_S8192x5120),
    binary main_call0_call0_v73 main_call0_call0_v77 main_call0_call0_v78 Host.shrui,
    binary main_call0_call0_v76 main_call0_call0_v78 main_call0_call0_v79 ori,
    binary main_call0_call0_v74 main_call0_call0_v79 main_call0_call0_v80 xori,
    binary main_call0_call0_v74 main_call0_call0_v80 main_call0_call0_v81 addi,
    nullary main_call0_call0_c_20 (constantI S_ 32 15#32),
    unary main_call0_call0_c_20 main_call0_call0_v82 (broadcastInDim S8192x5120 ![] bcast_S_S8192x5120),
    binary main_call0_call0_v80 main_call0_call0_v82 main_call0_call0_v83 Host.shli,
    nullary main_call0_call0_c_21 (constantI S_ 32 17#32),
    unary main_call0_call0_c_21 main_call0_call0_v84 (broadcastInDim S8192x5120 ![] bcast_S_S8192x5120),
    binary main_call0_call0_v80 main_call0_call0_v84 main_call0_call0_v85 Host.shrui,
    binary main_call0_call0_v83 main_call0_call0_v85 main_call0_call0_v86 ori,
    binary main_call0_call0_v81 main_call0_call0_v86 main_call0_call0_v87 xori,
    binary main_call0_call0_v81 main_call0_call0_v87 main_call0_call0_v88 addi,
    nullary main_call0_call0_c_22 (constantI S_ 32 26#32),
    unary main_call0_call0_c_22 main_call0_call0_v89 (broadcastInDim S8192x5120 ![] bcast_S_S8192x5120),
    binary main_call0_call0_v87 main_call0_call0_v89 main_call0_call0_v90 Host.shli,
    nullary main_call0_call0_c_23 (constantI S_ 32 6#32),
    unary main_call0_call0_c_23 main_call0_call0_v91 (broadcastInDim S8192x5120 ![] bcast_S_S8192x5120),
    binary main_call0_call0_v87 main_call0_call0_v91 main_call0_call0_v92 Host.shrui,
    binary main_call0_call0_v90 main_call0_call0_v92 main_call0_call0_v93 ori,
    binary main_call0_call0_v88 main_call0_call0_v93 main_call0_call0_v94 xori,
    binary main_call0_call0_v88 main_call0_call0_v94 main_call0_call0_v95 addi,
    nullary main_call0_call0_c_24 (constantI S_ 32 6#32),
    unary main_call0_call0_c_24 main_call0_call0_v96 (broadcastInDim S8192x5120 ![] bcast_S_S8192x5120),
    binary main_call0_call0_v94 main_call0_call0_v96 main_call0_call0_v97 Host.shli,
    nullary main_call0_call0_c_25 (constantI S_ 32 26#32),
    unary main_call0_call0_c_25 main_call0_call0_v98 (broadcastInDim S8192x5120 ![] bcast_S_S8192x5120),
    binary main_call0_call0_v94 main_call0_call0_v98 main_call0_call0_v99 Host.shrui,
    binary main_call0_call0_v97 main_call0_call0_v99 main_call0_call0_v100 ori,
    binary main_call0_call0_v95 main_call0_call0_v100 main_call0_call0_v101 xori,
    unary main_call0_v5 main_call0_call0_v102 (broadcastInDim S8192x5120 ![] bcast_S_S8192x5120),
    binary main_call0_call0_v95 main_call0_call0_v102 main_call0_call0_v103 addi,
    unary main_call0_v7 main_call0_call0_v104 (broadcastInDim S8192x5120 ![] bcast_S_S8192x5120),
    binary main_call0_call0_v101 main_call0_call0_v104 main_call0_call0_v105 addi,
    nullary main_call0_call0_c_26 (constantI S_ 32 3#32),
    unary main_call0_call0_c_26 main_call0_call0_v106 (broadcastInDim S8192x5120 ![] bcast_S_S8192x5120),
    binary main_call0_call0_v105 main_call0_call0_v106 main_call0_call0_v107 addi ]

/-- The operations of group 4 of the counter hash: four rounds and a key injection. -/
abbrev opsT3 : List (HloOp τ sig (Elt F)) :=
  [ binary main_call0_call0_v103 main_call0_call0_v107 main_call0_call0_v108 addi,
    nullary main_call0_call0_c_27 (constantI S_ 32 17#32),
    unary main_call0_call0_c_27 main_call0_call0_v109 (broadcastInDim S8192x5120 ![] bcast_S_S8192x5120),
    binary main_call0_call0_v107 main_call0_call0_v109 main_call0_call0_v110 Host.shli,
    nullary main_call0_call0_c_28 (constantI S_ 32 15#32),
    unary main_call0_call0_c_28 main_call0_call0_v111 (broadcastInDim S8192x5120 ![] bcast_S_S8192x5120),
    binary main_call0_call0_v107 main_call0_call0_v111 main_call0_call0_v112 Host.shrui,
    binary main_call0_call0_v110 main_call0_call0_v112 main_call0_call0_v113 ori,
    binary main_call0_call0_v108 main_call0_call0_v113 main_call0_call0_v114 xori,
    binary main_call0_call0_v108 main_call0_call0_v114 main_call0_call0_v115 addi,
    nullary main_call0_call0_c_29 (constantI S_ 32 29#32),
    unary main_call0_call0_c_29 main_call0_call0_v116 (broadcastInDim S8192x5120 ![] bcast_S_S8192x5120),
    binary main_call0_call0_v114 main_call0_call0_v116 main_call0_call0_v117 Host.shli,
    nullary main_call0_call0_c_30 (constantI S_ 32 3#32),
    unary main_call0_call0_c_30 main_call0_call0_v118 (broadcastInDim S8192x5120 ![] bcast_S_S8192x5120),
    binary main_call0_call0_v114 main_call0_call0_v118 main_call0_call0_v119 Host.shrui,
    binary main_call0_call0_v117 main_call0_call0_v119 main_call0_call0_v120 ori,
    binary main_call0_call0_v115 main_call0_call0_v120 main_call0_call0_v121 xori,
    binary main_call0_call0_v115 main_call0_call0_v121 main_call0_call0_v122 addi,
    nullary main_call0_call0_c_31 (constantI S_ 32 16#32),
    unary main_call0_call0_c_31 main_call0_call0_v123 (broadcastInDim S8192x5120 ![] bcast_S_S8192x5120),
    binary main_call0_call0_v121 main_call0_call0_v123 main_call0_call0_v124 Host.shli,
    nullary main_call0_call0_c_32 (constantI S_ 32 16#32),
    unary main_call0_call0_c_32 main_call0_call0_v125 (broadcastInDim S8192x5120 ![] bcast_S_S8192x5120),
    binary main_call0_call0_v121 main_call0_call0_v125 main_call0_call0_v126 Host.shrui,
    binary main_call0_call0_v124 main_call0_call0_v126 main_call0_call0_v127 ori,
    binary main_call0_call0_v122 main_call0_call0_v127 main_call0_call0_v128 xori,
    binary main_call0_call0_v122 main_call0_call0_v128 main_call0_call0_v129 addi,
    nullary main_call0_call0_c_33 (constantI S_ 32 24#32),
    unary main_call0_call0_c_33 main_call0_call0_v130 (broadcastInDim S8192x5120 ![] bcast_S_S8192x5120),
    binary main_call0_call0_v128 main_call0_call0_v130 main_call0_call0_v131 Host.shli,
    nullary main_call0_call0_c_34 (constantI S_ 32 8#32),
    unary main_call0_call0_c_34 main_call0_call0_v132 (broadcastInDim S8192x5120 ![] bcast_S_S8192x5120),
    binary main_call0_call0_v128 main_call0_call0_v132 main_call0_call0_v133 Host.shrui,
    binary main_call0_call0_v131 main_call0_call0_v133 main_call0_call0_v134 ori,
    binary main_call0_call0_v129 main_call0_call0_v134 main_call0_call0_v135 xori,
    unary main_call0_v7 main_call0_call0_v136 (broadcastInDim S8192x5120 ![] bcast_S_S8192x5120),
    binary main_call0_call0_v129 main_call0_call0_v136 main_call0_call0_v137 addi,
    unary main_call0_call0_v1 main_call0_call0_v138 (broadcastInDim S8192x5120 ![] bcast_S_S8192x5120),
    binary main_call0_call0_v135 main_call0_call0_v138 main_call0_call0_v139 addi,
    nullary main_call0_call0_c_35 (constantI S_ 32 4#32),
    unary main_call0_call0_c_35 main_call0_call0_v140 (broadcastInDim S8192x5120 ![] bcast_S_S8192x5120),
    binary main_call0_call0_v139 main_call0_call0_v140 main_call0_call0_v141 addi ]

/-- The operations of group 5 of the counter hash: four rounds and a key injection. -/
abbrev opsT4 : List (HloOp τ sig (Elt F)) :=
  [ binary main_call0_call0_v137 main_call0_call0_v141 main_call0_call0_v142 addi,
    nullary main_call0_call0_c_36 (constantI S_ 32 13#32),
    unary main_call0_call0_c_36 main_call0_call0_v143 (broadcastInDim S8192x5120 ![] bcast_S_S8192x5120),
    binary main_call0_call0_v141 main_call0_call0_v143 main_call0_call0_v144 Host.shli,
    nullary main_call0_call0_c_37 (constantI S_ 32 19#32),
    unary main_call0_call0_c_37 main_call0_call0_v145 (broadcastInDim S8192x5120 ![] bcast_S_S8192x5120),
    binary main_call0_call0_v141 main_call0_call0_v145 main_call0_call0_v146 Host.shrui,
    binary main_call0_call0_v144 main_call0_call0_v146 main_call0_call0_v147 ori,
    binary main_call0_call0_v142 main_call0_call0_v147 main_call0_call0_v148 xori,
    binary main_call0_call0_v142 main_call0_call0_v148 main_call0_call0_v149 addi,
    nullary main_call0_call0_c_38 (constantI S_ 32 15#32),
    unary main_call0_call0_c_38 main_call0_call0_v150 (broadcastInDim S8192x5120 ![] bcast_S_S8192x5120),
    binary main_call0_call0_v148 main_call0_call0_v150 main_call0_call0_v151 Host.shli,
    nullary main_call0_call0_c_39 (constantI S_ 32 17#32),
    unary main_call0_call0_c_39 main_call0_call0_v152 (broadcastInDim S8192x5120 ![] bcast_S_S8192x5120),
    binary main_call0_call0_v148 main_call0_call0_v152 main_call0_call0_v153 Host.shrui,
    binary main_call0_call0_v151 main_call0_call0_v153 main_call0_call0_v154 ori,
    binary main_call0_call0_v149 main_call0_call0_v154 main_call0_call0_v155 xori,
    binary main_call0_call0_v149 main_call0_call0_v155 main_call0_call0_v156 addi,
    nullary main_call0_call0_c_40 (constantI S_ 32 26#32),
    unary main_call0_call0_c_40 main_call0_call0_v157 (broadcastInDim S8192x5120 ![] bcast_S_S8192x5120),
    binary main_call0_call0_v155 main_call0_call0_v157 main_call0_call0_v158 Host.shli,
    nullary main_call0_call0_c_41 (constantI S_ 32 6#32),
    unary main_call0_call0_c_41 main_call0_call0_v159 (broadcastInDim S8192x5120 ![] bcast_S_S8192x5120),
    binary main_call0_call0_v155 main_call0_call0_v159 main_call0_call0_v160 Host.shrui,
    binary main_call0_call0_v158 main_call0_call0_v160 main_call0_call0_v161 ori,
    binary main_call0_call0_v156 main_call0_call0_v161 main_call0_call0_v162 xori,
    binary main_call0_call0_v156 main_call0_call0_v162 main_call0_call0_v163 addi,
    nullary main_call0_call0_c_42 (constantI S_ 32 6#32),
    unary main_call0_call0_c_42 main_call0_call0_v164 (broadcastInDim S8192x5120 ![] bcast_S_S8192x5120),
    binary main_call0_call0_v162 main_call0_call0_v164 main_call0_call0_v165 Host.shli,
    nullary main_call0_call0_c_43 (constantI S_ 32 26#32),
    unary main_call0_call0_c_43 main_call0_call0_v166 (broadcastInDim S8192x5120 ![] bcast_S_S8192x5120),
    binary main_call0_call0_v162 main_call0_call0_v166 main_call0_call0_v167 Host.shrui,
    binary main_call0_call0_v165 main_call0_call0_v167 main_call0_call0_v168 ori,
    binary main_call0_call0_v163 main_call0_call0_v168 main_call0_call0_v169 xori,
    unary main_call0_call0_v1 main_call0_call0_v170 (broadcastInDim S8192x5120 ![] bcast_S_S8192x5120),
    binary main_call0_call0_v163 main_call0_call0_v170 main_call0_v19_0 addi,
    unary main_call0_v5 main_call0_call0_v172 (broadcastInDim S8192x5120 ![] bcast_S_S8192x5120),
    binary main_call0_call0_v169 main_call0_call0_v172 main_call0_call0_v173 addi,
    nullary main_call0_call0_c_44 (constantI S_ 32 5#32),
    unary main_call0_call0_c_44 main_call0_call0_v174 (broadcastInDim S8192x5120 ![] bcast_S_S8192x5120),
    binary main_call0_call0_v173 main_call0_call0_v174 main_call0_v19_1 addi ]

/-- The operations of the words as numbers in [0, 1). -/
abbrev opsUni : List (HloOp τ sig (Elt F)) :=
  [ binary main_call0_v19_0 main_call0_v19_1 main_call0_v20 xori,
    nullary main_call0_c_2 (constantI S_ 32 9#32),
    unary main_call0_c_2 main_call0_v21 (broadcastInDim S8192x5120 ![] bcast_S_S8192x5120),
    binary main_call0_v20 main_call0_v21 main_call0_v22 Host.shrui,
    nullary main_call0_c_3 (constantI S_ 32 1065353216#32),
    unary main_call0_c_3 main_call0_v23 (broadcastInDim S8192x5120 ![] bcast_S_S8192x5120),
    binary main_call0_v22 main_call0_v23 main_call0_v24 ori,
    unary main_call0_v24 main_call0_v25 (bitcastToFloat .f32),
    nullary main_call0_cst (constant S_ .f32 0x3F800000#32),
    unary main_call0_cst main_call0_v26 (broadcastInDim S8192x5120 ![] bcast_S_S8192x5120),
    binary main_call0_v25 main_call0_v26 main_call0_v27 subf,
    binary main_call0_v3 main_call0_v2 main_call0_v28 subf,
    unary main_call0_v28 main_call0_v29 (broadcastInDim S8192x5120 ![0, 1] bcast_S1x1_S8192x5120_0_1),
    binary main_call0_v27 main_call0_v29 main_call0_v30 mulf,
    unary main_call0_v2 main_call0_v31 (broadcastInDim S8192x5120 ![0, 1] bcast_S1x1_S8192x5120_0_1),
    binary main_call0_v30 main_call0_v31 main_call0_v32 addf,
    unary main_call0_v2 main_call0_v33 (broadcastInDim S8192x5120 ![0, 1] bcast_S1x1_S8192x5120_0_1),
    binary main_call0_v33 main_call0_v32 main_v20 maximumf ]

/-- The operations of the Gumbel score of every column. -/
abbrev opsScore : List (HloOp τ sig (Elt F)) :=
  [ unary main_v20 main_v21 (Host.log),
    unary main_v21 main_v22 (Host.negf),
    unary main_v22 main_v23 (Host.log),
    unary main_v23 main_v24 (Host.negf),
    unary main_v2 main_v25 (broadcastInDim S1x5120 ![1] bcast_S5120_S1x5120_1),
    unary main_v25 main_v26 (broadcastInDim S8192x5120 ![0, 1] bcast_S1x5120_S8192x5120_0_1),
    binary main_v24 main_v26 main_v27 (addf) ]

/-- The operations of the winning column of every row. -/
abbrev opsArg : List (HloOp τ sig (Elt F)) :=
  [ nullary main_call1_v0 (iotaInDim S8192x5120 32 1),
    nullary main_call1_cst (constant S_ .f32 0xFF800000#32),
    nullary main_call1_c (constantI S_ 32 0#32),
    quaternary main_v27 main_call1_v0 main_call1_cst main_call1_c main_call1_v1_0 (fun x y u v j => (Host.argReduce reducer_argmax_f32_i32 x y u v reducesTo_S8192x5120_S8192_d1 h_S_ j).1),
    quaternary main_v27 main_call1_v0 main_call1_cst main_call1_c main_v28 (fun x y u v j => (Host.argReduce reducer_argmax_f32_i32 x y u v reducesTo_S8192x5120_S8192_d1 h_S_ j).2) ]

/-- The operations of the winner's position. -/
abbrev opsDiv : List (HloOp τ sig (Elt F)) :=
  [ nullary main_c_7 (constantI S_ 32 20#32),
    unary main_c_7 main_call2_v0 id,
    unary main_call2_v0 main_call2_v1 (broadcastInDim S8192 ![] bcast_S_S8192),
    binary main_v28 main_call2_v1 main_call2_v2 Host.divsi,
    unary main_v28 main_call2_v3 signi,
    unary main_call2_v0 main_call2_v4 signi,
    unary main_call2_v4 main_call2_v5 (broadcastInDim S8192 ![] bcast_S_S8192),
    binary main_call2_v3 main_call2_v5 main_call2_v6 (cmpi .ne),
    unary main_call2_v0 main_call2_v7 (broadcastInDim S8192 ![] bcast_S_S8192),
    binary main_v28 main_call2_v7 main_call2_v8 Host.remsi,
    nullary main_call2_c (constantI S_ 32 0#32),
    unary main_call2_c main_call2_v9 (broadcastInDim S8192 ![] bcast_S_S8192),
    binary main_call2_v8 main_call2_v9 main_call2_v10 (cmpi .ne),
    binary main_call2_v6 main_call2_v10 main_call2_v11 andi,
    nullary main_call2_c_0 (constantI S_ 32 1#32),
    unary main_call2_c_0 main_call2_v12 (broadcastInDim S8192 ![] bcast_S_S8192),
    binary main_call2_v2 main_call2_v12 main_call2_v13 subi,
    ternary main_call2_v11 main_call2_v13 main_call2_v2 main_v29 select ]

/-- The operations of the winner's token. -/
abbrev opsRem : List (HloOp τ sig (Elt F)) :=
  [ nullary main_c_8 (constantI S_ 32 20#32),
    unary main_c_8 main_call3_v0 id,
    nullary main_call3_c (constantI S_ 32 0#32),
    binary main_call3_v0 main_call3_c main_call3_v1 (cmpi .eq),
    nullary main_call3_c_0 (constantI S_ 32 1#32),
    ternary main_call3_v1 main_call3_c_0 main_call3_v0 main_call3_v2 select,
    unary main_call3_v2 main_call3_v3 (broadcastInDim S8192 ![] bcast_S_S8192),
    binary main_v28 main_call3_v3 main_call3_v4 Host.remsi,
    nullary main_call3_c_1 (constantI S_ 32 0#32),
    unary main_call3_c_1 main_call3_v5 (broadcastInDim S8192 ![] bcast_S_S8192),
    binary main_call3_v4 main_call3_v5 main_call3_v6 (cmpi .ne),
    nullary main_call3_c_2 (constantI S_ 32 0#32),
    unary main_call3_c_2 main_call3_v7 (broadcastInDim S8192 ![] bcast_S_S8192),
    binary main_call3_v4 main_call3_v7 main_call3_v8 (cmpi .slt),
    nullary main_call3_c_3 (constantI S_ 32 0#32),
    binary main_call3_v2 main_call3_c_3 main_call3_v9 (cmpi .slt),
    unary main_call3_v9 main_call3_v10 (broadcastInDim S8192 ![] bcast_S_S8192),
    binary main_call3_v8 main_call3_v10 main_call3_v11 (cmpi .ne),
    binary main_call3_v11 main_call3_v6 main_call3_v12 andi,
    unary main_call3_v2 main_call3_v13 (broadcastInDim S8192 ![] bcast_S_S8192),
    binary main_call3_v4 main_call3_v13 main_call3_v14 addi,
    ternary main_call3_v12 main_call3_v14 main_call3_v4 main_v30 select ]

/-- The operations of the sequence's tokens, one row per sample. -/
abbrev opsTok : List (HloOp τ sig (Elt F)) :=
  [ nullary main_call4_v0 (iotaInDim S1x256x20 32 2),
    nullary main_call4_cst (constant S_ .f32 0xFF800000#32),
    nullary main_call4_c (constantI S_ 32 0#32),
    quaternary main_arg0 main_call4_v0 main_call4_cst main_call4_c main_call4_v1_0 (fun x y u v j => (Host.argReduce reducer_argmax_f32_i32 x y u v reducesTo_S1x256x20_S1x256_d2 h_S_ j).1),
    quaternary main_arg0 main_call4_v0 main_call4_cst main_call4_c main_v31 (fun x y u v j => (Host.argReduce reducer_argmax_f32_i32 x y u v reducesTo_S1x256x20_S1x256_d2 h_S_ j).2),
    reshape main_v31 main_v32 (rfl : (.i32 : EltTy) = .i32) shapeCasts_S1x256_S256,
    unary main_v32 main_v33 (broadcastInDim S1x256 ![1] bcast_S256_S1x256_1),
    reshape main_v33 main_v34 (rfl : (.i32 : EltTy) = .i32) shapeCasts_S1x256_S1x1x1x256,
    unary main_v34 main_v35 (broadcastInDim S8192x1x1x256 ![0, 1, 2, 3] bcast_S1x1x1x256_S8192x1x1x256_0_1_2_3),
    reshape main_v35 main_v36 (rfl : (.i32 : EltTy) = .i32) shapeCasts_S8192x1x1x256_S8192x256 ]

/-- The operations of the sequences with the winner written in. -/
abbrev opsMut : List (HloOp τ sig (Elt F)) :=
  [ nullary main_v37 (iotaInDim S8192 32 0),
    nullary main_c_9 (constantI S_ 32 0#32),
    unary main_c_9 main_v38 (broadcastInDim S8192 ![] bcast_S_S8192),
    binary main_v37 main_v38 main_v39 (cmpi .slt),
    nullary main_c_10 (constantI S_ 32 8192#32),
    unary main_c_10 main_v40 (broadcastInDim S8192 ![] bcast_S_S8192),
    binary main_v37 main_v40 main_v41 (addi),
    ternary main_v39 main_v41 main_v37 main_v42 (select),
    nullary main_c_11 (constantI S_ 32 0#32),
    unary main_c_11 main_v43 (broadcastInDim S8192 ![] bcast_S_S8192),
    binary main_v29 main_v43 main_v44 (cmpi .slt),
    nullary main_c_12 (constantI S_ 32 256#32),
    unary main_c_12 main_v45 (broadcastInDim S8192 ![] bcast_S_S8192),
    binary main_v29 main_v45 main_v46 (addi),
    ternary main_v44 main_v46 main_v29 main_v47 (select),
    unary main_v42 main_v48 (broadcastInDim S8192x1 ![0] bcast_S8192_S8192x1_0),
    unary main_v47 main_v49 (broadcastInDim S8192x1 ![0] bcast_S8192_S8192x1_0),
    binary main_v48 main_v49 main_v50 ((fun a b => concatenate S8192x2 1 [⟨S8192x1, a⟩, ⟨S8192x1, b⟩] concatenates_S8192x1_S8192x1_S8192x2_d1)),
    ternary main_v36 main_v50 main_v30 main_v51 ((fun x i u => Host.scatter scatter_S8192x256_S8192x2_S8192_n_01_01_1 (fun _ b => b) x i u)) ]

/-- All operations of the program, in order. -/
abbrev ops : List (HloOp τ sig (Elt F)) :=
  opsSoft ++ (opsKey ++ (opsT0 ++ (opsT1 ++ (opsT2 ++ (opsT3 ++ (opsT4 ++ (opsUni ++ (opsScore ++ (opsArg ++ (opsDiv ++ (opsRem ++ (opsTok ++ (opsMut)))))))))))))

set_option maxHeartbeats 4000000 in
/-- The program is the line of its operations. -/
theorem main_eq (c : Dev nD) : main (F := F) c = seq ops := rfl

/-- The program scopes no buffer, -/
theorem no_scoped_refs : (Finset.univ.filter fun b : Ref sig .tc => b.isScoped) = ∅ := by decide +kernel
/-- and no semaphore. -/
theorem no_scoped_sems : (Finset.univ.filter fun sm : SemLoc sig => sm.isScoped .tc) = ∅ := by decide +kernel

set_option maxHeartbeats 4000000 in
/-- Every operation's buffers are the TensorCore's. -/
theorem ops_sub : (ops (F := F)).Forall fun op => op.bufs ⊆ tcRefs τ sig := by
  simp only [ops, opsSoft, opsKey, opsT0, opsT1, opsT2, opsT3, opsT4, opsUni, opsScore, opsArg, opsDiv, opsRem, opsTok, opsMut, List.cons_append, List.nil_append,
    List.Forall, nullary_bufs_sub, unary_bufs_sub, binary_bufs_sub, ternary_bufs_sub, quaternary_bufs_sub, reshape_bufs_sub, and_self]

set_option maxHeartbeats 4000000 in
/-- No operation allocates. -/
theorem ops_fresh : ∀ op ∈ (ops (F := F)), op.fresh = ∅ := by
  rw [← List.forall_iff_forall_mem]
  repeat' constructor

/-- The run: every buffer ends at the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq no_scoped_refs no_scoped_sems defs main (fun _ => ops) main_eq (fun _ => ops_sub) m ρ (fun _ => ops_fresh)

end Cert.ReferenceIdeal.RV

end
-- ==== Proof.RHost.lean ====
module

public import proofs.«01_k».proof.Proof.RRun
public import proofs.«01_k».proof.Proof.Div20
public import Idealize.ShloMosaic.Lib.ValueIdxCore
public import Idealize.ShloMosaic.Lib.ValueIdx
public import Idealize.ShloMosaic.Lib.Pipeline.Value
public import Idealize.ShloMosaic.Lib.Routing.OpsPair
public import Idealize.ShloMosaic.Lib.Routing.OpsSet

/-! The reference's remaining groups of operations, read at an element over the extended reals. -/

@[expose] public section

set_option maxRecDepth 65536

noncomputable section

namespace Cert.ReferenceIdeal.RV

open Cert.ReferenceIdeal Cert.ReferenceIdeal.Gen
open Idealize.ShloMosaic Idealize.ShloMosaic.TcCoe Idealize.ShloMosaic.StableHlo Idealize.SL.Sem
open Idealize.ShloMosaic.ValueIdx

/-- The Gumbel score of an element: `-log (-log u)` plus the column's scaled logit. -/
theorem score_apply (V : Valuation τ sig (Elt Ideal)) (i : S8192x5120.Idx) :
    (after opsScore V (Proc.devRef .tc main_v27) : FVec Ideal S8192x5120 .f32) i
      = (-(Ideal.log (-(Ideal.log ((V (Proc.devRef .tc main_v20) : FVec Ideal S8192x5120 .f32) i)))) : EReal)
        + (V (Proc.devRef .tc main_v2) : FVec Ideal S5120 .f32) (ix1 (i 1)) := by
  have h : ∀ x : FVec Ideal S5120 .f32, broadcastInDim S8192x5120 ![0, 1] bcast_S1x5120_S8192x5120_0_1
      (broadcastInDim S1x5120 ![1] bcast_S5120_S1x5120_1 x) i = x (ix1 (i 1)) := fun x => by
    refine congrArg x (funext fun a => ?_)
    fin_cases a
    rfl
  after_reads_simp
  exact congrArg₂ (fun a b : EReal => a + b) rfl (h _)

/-- The winning columns are the reference's arg-max over the columns. -/
theorem arg_apply (V : Valuation τ sig (Elt Ideal)) (j : S8192.Idx) :
    (after opsArg V (Proc.devRef .tc main_v28) : IVec S8192 32) j
      = (Host.argReduce (F := Ideal) reducer_argmax_f32_i32 (V (Proc.devRef .tc main_v27) : FVec Ideal S8192x5120 .f32)
          (iotaInDim S8192x5120 32 1) (constant S_ .f32 0xFF800000#32) (constantI S_ 32 0#32) reducesTo_S8192x5120_S8192_d1 h_S_ j).2 := by
  after_reads_simp

/-- The position of every row's winner. -/
theorem div_apply (V : Valuation τ sig (Elt Ideal)) (j : S8192.Idx) :
    (after opsDiv V (Proc.devRef .tc main_v29) : IVec S8192 32) j = Words.div20 ((V (Proc.devRef .tc main_v28) : IVec S8192 32) j) := by
  after_reads_simp
  sl_kernel_rfl

/-- The letter of every row's winner. -/
theorem rem_apply (V : Valuation τ sig (Elt Ideal)) (j : S8192.Idx) :
    (after opsRem V (Proc.devRef .tc main_v30) : IVec S8192 32) j = Words.rem20 ((V (Proc.devRef .tc main_v28) : IVec S8192 32) j) := by
  after_reads_simp
  sl_kernel_rfl

/-- The sequence every row starts from: the arg-max over the letters, position by position. -/
theorem tok_apply (V : Valuation τ sig (Elt Ideal)) (r : Fin 8192) (t : Fin 256) :
    (after opsTok V (Proc.devRef .tc main_v36) : IVec S8192x256 32) (ix2 r t)
      = (Host.argReduce (F := Ideal) reducer_argmax_f32_i32 (V (Proc.devRef .tc main_arg0) : FVec Ideal S1x256x20 .f32)
          (iotaInDim S1x256x20 32 2) (constant S_ .f32 0xFF800000#32) (constantI S_ 32 0#32) reducesTo_S1x256x20_S1x256_d2 h_S_ (ix2 0 t)).2 := by
  have h : ∀ x : IVec S1x256 32, shapeCast S8192x256 (broadcastInDim S8192x1x1x256 ![0, 1, 2, 3] bcast_S1x1x1x256_S8192x1x1x256_0_1_2_3
      (shapeCast S1x1x1x256 (broadcastInDim S1x256 ![1] bcast_S256_S1x256_1 (shapeCast S256 x shapeCasts_S1x256_S256)) shapeCasts_S1x256_S1x1x1x256))
      shapeCasts_S8192x1x1x256_S8192x256 (ix2 r t) = x (ix2 0 t) := fun x => by
    rw [shapeCast_apply _ _ _ (ix4 r 0 0 t) (by simp [Shape.rowMajor_val_two, Shape.rowMajor_val_four])]
    rw [broadcastInDim_apply _ _ _ _ (ix4 0 0 0 t) (by intro a; fin_cases a <;> rfl)]
    rw [shapeCast_apply _ _ _ (ix2 0 t) (by simp [Shape.rowMajor_val_two, Shape.rowMajor_val_four])]
    rw [broadcastInDim_apply _ _ _ _ (ix1 t) (by intro a; fin_cases a <;> rfl)]
    rw [shapeCast_apply _ _ _ (ix2 0 t) (by simp [Shape.rowMajor_val_two, Shape.rowMajor_val_one])]
  after_reads_simp
  exact h _

/-- Update `k` of the scatter lands at row `k`, at the column its second index word names. -/
theorem lands (idx : IVec S8192x2 32) (k r : Fin 8192) (p : Fin 256) :
    (scatter_S8192x256_S8192x2_S8192_n_01_01_1).resultIdx? (ix1 k) idx = some (ix2 r p)
      ↔ (idx (ix2 k 0)).toInt = r.val ∧ (idx (ix2 k 1)).toInt = p.val := by
  have hs : ∀ q : Fin 2, (scatter_S8192x256_S8192x2_S8192_n_01_01_1).start (ix1 k) idx q = (idx (ix2 k q)).toInt := fun q => by
    have : ∀ v : S8192x2.Idx, v = ix2 k q → (idx v).toInt = (idx (ix2 k q)).toInt := fun v h => by rw [h]
    fin_cases q
    · refine this _ (funext fun a => ?_)
      fin_cases a <;> rfl
    · refine this _ (funext fun a => ?_)
      fin_cases a <;> rfl
  have hw : ∀ q : Fin 2, (scatter_S8192x256_S8192x2_S8192_n_01_01_1).window (ix1 k) q = 0 := fun q => by
    fin_cases q <;> rfl
  rw [Routing.resultIdx?_ix2, hs, hs, hw, hw]
  simp

/-- The mutated sequence of row `r`: the new letter at the winner's position, the old ones elsewhere. -/
theorem mut_apply (V : Valuation τ sig (Elt Ideal)) (r : Fin 8192) (p : Fin 256) (n : ℕ → ℕ) (hn : ∀ k, k < 8192 → n k < 256)
    (h : ∀ k : Fin 8192, (V (Proc.devRef .tc main_v29) : IVec S8192 32) (ix1 k) = BitVec.ofNat 32 (n k.val)) :
    (after opsMut V (Proc.devRef .tc main_v51) : IVec S8192x256 32) (ix2 r p)
      = if p.val = n r.val then (V (Proc.devRef .tc main_v30) : IVec S8192 32) (ix1 r)
        else (V (Proc.devRef .tc main_v36) : IVec S8192x256 32) (ix2 r p) := by
  have ha : ∀ k : Fin 8192, (upto opsMut V 17 (Proc.devRef .tc main_v48) : IVec S8192x1 32) (ix2 k 0) = BitVec.ofNat 32 k.val := fun k => by
    have : (upto opsMut V 17 (Proc.devRef .tc main_v48) : IVec S8192x1 32) (ix2 k 0)
        = Scalar.select (IntOp.cmpi .slt (BitVec.ofNat 32 k.val) 0#32) (BitVec.ofNat 32 k.val + 8192#32) (BitVec.ofNat 32 k.val) := by
      after_reads_simp
      rfl
    rw [this, Routing.wrap_of_lt]
    rw [BitVec.toNat_ofNat]
    have := k.isLt
    omega
  have hb : ∀ k : Fin 8192, (upto opsMut V 17 (Proc.devRef .tc main_v49) : IVec S8192x1 32) (ix2 k 0) = BitVec.ofNat 32 (n k.val) := fun k => by
    have : (upto opsMut V 17 (Proc.devRef .tc main_v49) : IVec S8192x1 32) (ix2 k 0)
        = Scalar.select (IntOp.cmpi .slt ((V (Proc.devRef .tc main_v29) : IVec S8192 32) (ix1 k)) 0#32)
            (IntOp.addi ((V (Proc.devRef .tc main_v29) : IVec S8192 32) (ix1 k)) 256#32) ((V (Proc.devRef .tc main_v29) : IVec S8192 32) (ix1 k)) := by
      have e : ∀ x : IVec S8192 32, broadcastInDim S8192x1 ![0] bcast_S8192_S8192x1_0 x (ix2 k 0) = x (ix1 k) := fun x =>
        congrArg x (funext fun a => by fin_cases a; rfl)
      after_reads_simp
      exact (e _).trans rfl
    rw [this, h, Routing.wrap_of_lt]
    rw [BitVec.toNat_ofNat]
    have := hn k.val k.isLt
    omega
  after_reads_simp
  generalize (upto opsMut V 17 (Proc.devRef .tc main_v48) : IVec S8192x1 32) = A at ha ⊢
  generalize (upto opsMut V 17 (Proc.devRef .tc main_v49) : IVec S8192x1 32) = B at hb ⊢
  have hi0 : ∀ k : Fin 8192, concatenate S8192x2 1 [⟨S8192x1, A⟩, ⟨S8192x1, B⟩] concatenates_S8192x1_S8192x1_S8192x2_d1 (ix2 k 0) = BitVec.ofNat 32 k.val :=
    fun k => (concatenate_pair_apply_left (s₁ := S8192x1) (s₂ := S8192x1) (t := S8192x2) 1 A B concatenates_S8192x1_S8192x1_S8192x2_d1 (ix2 k 0) rfl (ix2 k 0) (by intro b; fin_cases b <;> rfl)).trans (ha k)
  have hi1 : ∀ k : Fin 8192, concatenate S8192x2 1 [⟨S8192x1, A⟩, ⟨S8192x1, B⟩] concatenates_S8192x1_S8192x1_S8192x2_d1 (ix2 k 1) = BitVec.ofNat 32 (n k.val) :=
    fun k => (concatenate_pair_apply_right (s₁ := S8192x1) (s₂ := S8192x1) (t := S8192x2) 1 A B concatenates_S8192x1_S8192x1_S8192x2_d1 (ix2 k 1) rfl rfl (ix2 k 0)
      (by intro b hb; fin_cases b <;> first | rfl | exact absurd rfl hb) rfl).trans (hb k)
  have small : ∀ m : ℕ, m < 8192 → (BitVec.ofNat 32 m).toInt = m := fun m hm => by
    rw [BitVec.toInt_eq_toNat_of_lt] <;> rw [BitVec.toNat_ofNat, Nat.mod_eq_of_lt] <;> omega
  have hl : ∀ k : Fin 8192, (scatter_S8192x256_S8192x2_S8192_n_01_01_1).resultIdx? (ix1 k)
      (concatenate S8192x2 1 [⟨S8192x1, A⟩, ⟨S8192x1, B⟩] concatenates_S8192x1_S8192x1_S8192x2_d1) = some (ix2 r p)
        ↔ k = r ∧ p.val = n k.val := fun k => by
    rw [lands, hi0, hi1, small _ k.isLt, small _ ((hn k.val k.isLt).trans (by decide)), Fin.ext_iff]
    omega
  split
  · next hp =>
    refine Routing.scatter_set_hit _ _ _ _ _ _ (fun k hk => ?_) (ix1 r) ((hl r).2 ⟨rfl, hp⟩)
    rw [eq_ix1 k] at hk ⊢
    rw [((hl _).1 hk).1]
    rfl
  · next hp =>
    refine Routing.scatter_set_miss _ _ _ _ _ (fun k hk => ?_)
    rw [eq_ix1 k] at hk
    obtain ⟨h1, h2⟩ := (hl _).1 hk
    rw [h1] at h2
    exact hp h2

end Cert.ReferenceIdeal.RV
-- ==== Proof.RArg.lean ====
module

public import proofs.«01_k».proof.Proof.RHost
public import proofs.«01_k».proof.Proof.Spec

/-! The reference's arg-max as the first index of the greatest value, and its softmax. -/

@[expose] public section

set_option maxRecDepth 65536

noncomputable section

namespace Cert.ReferenceIdeal.RV

open Cert.ReferenceIdeal Cert.ReferenceIdeal.Gen
open Idealize.ShloMosaic Idealize.ShloMosaic.TcCoe Idealize.ShloMosaic.StableHlo Idealize.SL.Sem
open Idealize.ShloMosaic.ValueIdx
open Cert.Spec

/-- The arg-max's step keeps the pair of the greater value, and of equal values the pair of the smaller index. -/
theorem step_eq (a b : Ideal .f32 × BitVec 32) : reducer_argmax_f32_i32 (F := Ideal) a b
    = if (b.1 : EReal) < a.1 then a else if (a.1 : EReal) = b.1 ∧ a.2.slt b.2 then a else b := by
  obtain ⟨x, i⟩ := a
  obtain ⟨y, j⟩ := b
  change EReal at x y
  unfold reducer_argmax_f32_i32
  simp only [Ideal.cmpf_def, Ideal.cmp]
  rcases lt_trichotomy x y with h | h | h
  · simp [h.ne, not_lt.mpr h.le, IntOp.ori, IntOp.andi, Scalar.select]
  · subst h
    cases hs : i.slt j <;> simp [hs, IntOp.ori, IntOp.andi, IntOp.cmpi, Scalar.select]
  · simp [h, h.ne', IntOp.ori, IntOp.andi, Scalar.select]

/-- The pair `e` does not beat the pair `t`. -/
def Under (t e : Ideal .f32 × BitVec 32) : Prop := (e.1 : EReal) < t.1 ∨ (e.1 : EReal) = t.1 ∧ ¬ e.2.slt t.2

/-- Against a pair that does not beat it, `t` is kept on the left, -/
theorem step_left (t e : Ideal .f32 × BitVec 32) (h : Under t e) : reducer_argmax_f32_i32 (F := Ideal) t e = t := by
  rw [step_eq]
  rcases h with h | ⟨h, hs⟩
  · rw [if_pos h]
  · split_ifs with h1 h2
    · rfl
    · rfl
    · refine Prod.ext h (BitVec.toInt_inj.mp ?_)
      have h3 : ¬ t.2.slt e.2 := fun h4 => h2 ⟨h.symm, h4⟩
      rw [BitVec.slt_iff_toInt_lt] at hs h3
      omega

/-- and on the right. -/
theorem step_right (t e : Ideal .f32 × BitVec 32) (h : Under t e) : reducer_argmax_f32_i32 (F := Ideal) e t = t := by
  rw [step_eq]
  rcases h with h | ⟨h, hs⟩
  · rw [if_neg (not_lt.mpr h.le), if_neg (fun h1 => h.ne h1.1)]
  · rw [if_neg (not_lt.mpr h.le), if_neg (fun h1 => hs h1.2)]

/-- Each step keeps one of its two pairs. -/
theorem step_mem (a b : Ideal .f32 × BitVec 32) :
    reducer_argmax_f32_i32 (F := Ideal) a b = a ∨ reducer_argmax_f32_i32 (F := Ideal) a b = b := by
  rw [step_eq]
  split_ifs <;> simp

/-- A fold of the step over pairs none of which beats `t`, `t` among them, ends at `t`. -/
theorem fold_eq (t : Ideal .f32 × BitVec 32) (l : List (Ideal .f32 × BitVec 32)) : ∀ a, (∀ e ∈ a :: l, Under t e) → t ∈ a :: l →
    l.foldl (reducer_argmax_f32_i32 (F := Ideal)) a = t := by
  induction l with
  | nil =>
    intro a _ h
    exact (List.mem_singleton.mp h).symm
  | cons b l ih =>
    intro a hu h
    refine ih _ (fun e he => ?_) ?_
    · rcases List.mem_cons.mp he with rfl | he
      · rcases step_mem a b with h1 | h1 <;> rw [h1] <;> exact hu _ (by simp)
      · exact hu _ (by simp [he])
    · rcases List.mem_cons.mp h with rfl | h
      · rw [step_left _ _ (hu b (by simp))]
        simp
      · rcases List.mem_cons.mp h with rfl | h
        · rw [step_right _ _ (hu a (by simp))]
          simp
        · exact List.mem_cons_of_mem _ h

/-- The arg-max at a result index: the index word of a value that no other value beats. -/
theorem arg_of {s t : Shape} {axes : List (Fin s.rank)} (x : FVec Ideal s .f32) (y : s.Idx → BitVec 32) (h : s.ReducesTo axes t)
    (j : t.Idx) (i : s.Idx) (hi : h.drop i = j) (hd : ∀ k, h.drop k = j → Under (x i, y i) (x k, y k))
    (h0 : (x i : EReal) = ⊥ → y i = 0#32) :
    (Host.argReduce (F := Ideal) reducer_argmax_f32_i32 x y (constant S_ .f32 0xFF800000#32) (constantI S_ 32 0#32) h h_S_ j).2 = y i := by
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [Ideal.argReduce_eq_reduce2, Host.reduce2_eq_foldl_fiber, fold_eq (x i, y i)]
  · intro e he
    rcases List.mem_cons.mp he with rfl | he
    · rw [hb]
      rcases (bot_le : (⊥ : EReal) ≤ x i).lt_or_eq with h1 | h1
      · exact .inl h1
      · refine .inr ⟨h1, ?_⟩
        show ¬ (0#32).slt (y i)
        rw [h0 h1.symm]
        decide
    · obtain ⟨n, hn, rfl⟩ := List.mem_map.mp he
      exact hd _ (of_decide_eq_true (List.mem_filter.mp hn).2)
  · refine List.mem_cons_of_mem _ (List.mem_map.mpr ⟨s.rowMajor i, List.mem_filter.mpr ⟨List.mem_finRange _, ?_⟩, ?_⟩)
    · rw [Equiv.symm_apply_apply]
      exact decide_eq_true hi
    · rw [Equiv.symm_apply_apply]

/-- The columns as the indices of the row. -/
def cols : Fin 5120 ≃ S5120.Idx where
  toFun k := ix1 k
  invFun i := i 0
  left_inv _ := rfl
  right_inv i := funext fun a => by fin_cases a; rfl

/-- The reference's softmax of a row of logits. -/
def hostSoft (y : FVec Ideal S5120 .f32) : FVec Ideal S5120 .f32 :=
  let w := Host.exp (subf y (broadcastInDim S5120 ![0] bcast_S1_S5120_0 (broadcastInDim S1 ![] bcast_S_S1
    (maximumf (constant S_ .f32 0xFF800000#32) (Host.reduce FloatOps.maximumf y (constant S_ .f32 0xFF800000#32) reducesTo_S5120_S_d0 h_S_)))))
  Host.divf w (broadcastInDim S5120 ![0] bcast_S1_S5120_0 (broadcastInDim S1 ![] bcast_S_S1
    (Host.reduceAdd w (constant S_ .f32 0x00000000#32) reducesTo_S5120_S_d0 h_S_)))

/-- The reference's probabilities are the softmax of its logits. -/
theorem soft_eq (V : Valuation τ sig (Elt Ideal)) :
    (after opsSoft V (Proc.devRef .tc main_v12) : FVec Ideal S5120 .f32) = hostSoft (after opsSoft V (Proc.devRef .tc main_v2) : FVec Ideal S5120 .f32) := by
  unfold hostSoft
  after_reads_simp

/-- The reference's greatest logit is the greatest of the row. -/
theorem max_apply (y : FVec Ideal S5120 .f32) (j : S_.Idx) :
    Host.reduce FloatOps.maximumf y (constant S_ .f32 0xFF800000#32) reducesTo_S5120_S_d0 h_S_ j = top fun k => y (ix1 k) := by
  refine (Host.reduce_eq_fold _ _ _ _ _ j).trans ?_
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [hb]
  refine fold_top _ _ _ (fun i _ => ⟨cols.symm i, ?_⟩) fun k => ⟨ix1 k, ?_, rfl⟩
  · exact congrArg y (cols.apply_symm_apply i).symm
  · rw [Finset.mem_filter]
    exact ⟨Finset.mem_univ _, funext fun a => a.elim0⟩

/-- The reference's sum over the row is the sum of its columns. -/
theorem sum_apply (y : FVec Ideal S5120 .f32) (j : S_.Idx) :
    Host.reduceAdd y (constant S_ .f32 0x00000000#32) reducesTo_S5120_S_d0 h_S_ j = (∑ k : Fin 5120, y (ix1 k) : EReal) := by
  refine (Ideal.hostReduceAdd_total reducesTo_S5120_S_d0 (fun a => a.elim0) y _ j).trans ?_
  have hb : (constant S_ .f32 0x00000000#32 : FVec Ideal S_ .f32) (Shape.Idx.first h_S_) = (0 : EReal) := Ideal.ofBits_zero_f32
  rw [hb, zero_add]
  exact (Fintype.sum_equiv cols _ _ fun _ => rfl).symm

/-- It is the softmax of the specification. -/
theorem hostSoft_apply (y : FVec Ideal S5120 .f32) (k : Fin 5120) : hostSoft y (ix1 k) = soft (fun k => y (ix1 k)) k := by
  have hx : ∀ v : FVec Ideal S_ .f32, broadcastInDim S5120 ![0] bcast_S1_S5120_0 (broadcastInDim S1 ![] bcast_S_S1 v) = fun _ => v fun a => a.elim0 := fun v =>
    funext fun i => congrArg v (funext fun a => a.elim0)
  have hm : ∀ j, maximumf (constant S_ .f32 0xFF800000#32) (Host.reduce FloatOps.maximumf y (constant S_ .f32 0xFF800000#32) reducesTo_S5120_S_d0 h_S_) j
      = top fun k => y (ix1 k) := fun j => by
    refine (congrArg (fun v : EReal => max (Ideal.ofBits .f32 0xFF800000#32) v) (max_apply y j)).trans ?_
    have hb : Ideal.ofBits .f32 0xFF800000#32 = ⊥ := by simp [Ideal.ofBits, Ideal.ieee]
    show max (Ideal.ofBits .f32 0xFF800000#32) (top fun k => y (ix1 k)) = _
    rw [hb]
    exact max_eq_right bot_le
  have he : ∀ v : EReal, (Host.exp (subf y fun _ => (v : Ideal .f32)) : FVec Ideal S5120 .f32) = fun i => Ideal.exp (y i - v) := fun _ => rfl
  have hd : ∀ (a : FVec Ideal S5120 .f32) (b : EReal), Host.divf a (fun _ => (b : Ideal .f32)) (ix1 k) = Ideal.div (a (ix1 k)) b := fun _ _ => rfl
  unfold hostSoft soft
  simp only [hx, hm]
  refine (hd _ _).trans ?_
  rw [he, sum_apply]

/-- A logit: the number over the temperature. -/
theorem logit_apply (V : Valuation τ sig (Elt Ideal)) (k : Fin 5120) :
    (after opsSoft V (Proc.devRef .tc main_v2) : FVec Ideal S5120 .f32) (ix1 k)
      = scaled ((V (Proc.devRef .tc main_arg1) : FVec Ideal S256x20 .f32) (ix2 ⟨k.val / 20, by have := k.isLt; omega⟩ ⟨k.val % 20, Nat.mod_lt _ (by norm_num)⟩)) := by
  have hc : Ideal.ofBits .f32 0x3DCCCCCD#32 = ((13421773 / 134217728 : ℝ) : EReal) := by
    simp [Ideal.ofBits, Ideal.ieee]
    rw [← EReal.coe_mul]
    norm_num
  have hs : ∀ x : FVec Ideal S256x20 .f32, shapeCast S5120 x shapeCasts_S256x20_S5120 (ix1 k)
      = x (ix2 ⟨k.val / 20, by have := k.isLt; omega⟩ ⟨k.val % 20, Nat.mod_lt _ (by norm_num)⟩) := fun x => by
    refine shapeCast_apply _ _ _ _ ?_
    rw [Shape.rowMajor_val_one, Shape.rowMajor_val_two]
    show k.val / 20 * 20 + k.val % 20 = k.val
    omega
  have hd : ∀ x : FVec Ideal S5120 .f32, Host.divf x (broadcastInDim S5120 ![] bcast_S_S5120 (constant S_ .f32 0x3DCCCCCD#32)) (ix1 k)
      = Ideal.div (x (ix1 k)) (Ideal.ofBits .f32 0x3DCCCCCD#32) := fun _ => rfl
  after_reads_simp
  refine (hd _).trans ?_
  rw [hc, Ideal.div_coe (by norm_num)]
  have hv : ∀ a b : EReal, a = b → a * ((1 / (13421773 / 134217728) : ℝ) : EReal) = scaled b := fun a b e => by
    rw [e, scaled]
    norm_num
  exact hv _ _ (hs _)

end Cert.ReferenceIdeal.RV
-- ==== Proof.RVal.lean ====
module

public import proofs.«01_k».proof.Proof.RRun
public import proofs.«01_k».proof.Proof.Words
public import Idealize.ShloMosaic.Lib.ValueIdxCore
public import Idealize.ShloMosaic.Lib.Pipeline.Value

/-! The reference's uniform draws, read off its groups of operations: the hash of the row-major position, at every element. -/

@[expose] public section

set_option maxRecDepth 65536

noncomputable section

namespace Cert.ReferenceIdeal.RV

open Cert.ReferenceIdeal Cert.ReferenceIdeal.Gen
open Idealize.ShloMosaic Idealize.ShloMosaic.TcCoe Idealize.ShloMosaic.StableHlo Idealize.SL.Sem Idealize.ShloMosaic.ValueIdx

variable {F : FTy → Type} [FloatOps F]

/-- A word repeated over the array of draws. -/
abbrev spread (x : IVec S_ 32) : IVec S8192x5120 32 := broadcastInDim S8192x5120 ![] bcast_S_S8192x5120 x

/-- Group 1 of the rounds, with the two keys and the counter added after it, at an element. -/
theorem rounds0 (V : Valuation τ sig (Elt F)) (i : S8192x5120.Idx) :
    ((after opsT0 V (Proc.devRef .tc main_call0_call0_v35) : IVec S8192x5120 32) i, (after opsT0 V (Proc.devRef .tc main_call0_call0_v39) : IVec S8192x5120 32) i)
      = Words.injOf (spread (V (Proc.devRef .tc main_call0_v7) : IVec S_ 32) i) (spread (V (Proc.devRef .tc main_call0_call0_v1) : IVec S_ 32) i) 1#32
          (Words.even ((V (Proc.devRef .tc main_call0_call0_v3) : IVec S8192x5120 32) i, (V (Proc.devRef .tc main_call0_call0_v5) : IVec S8192x5120 32) i)) := by
  refine Prod.ext ?_ ?_
  · after_reads_simp
    sl_kernel_rfl
  · after_reads_simp
    sl_kernel_rfl

/-- Group 2 of the rounds, with the two keys and the counter added after it, at an element. -/
theorem rounds1 (V : Valuation τ sig (Elt F)) (i : S8192x5120.Idx) :
    ((after opsT1 V (Proc.devRef .tc main_call0_call0_v69) : IVec S8192x5120 32) i, (after opsT1 V (Proc.devRef .tc main_call0_call0_v73) : IVec S8192x5120 32) i)
      = Words.injOf (spread (V (Proc.devRef .tc main_call0_call0_v1) : IVec S_ 32) i) (spread (V (Proc.devRef .tc main_call0_v5) : IVec S_ 32) i) 2#32
          (Words.odd ((V (Proc.devRef .tc main_call0_call0_v35) : IVec S8192x5120 32) i, (V (Proc.devRef .tc main_call0_call0_v39) : IVec S8192x5120 32) i)) := by
  refine Prod.ext ?_ ?_
  · after_reads_simp
    sl_kernel_rfl
  · after_reads_simp
    sl_kernel_rfl

/-- Group 3 of the rounds, with the two keys and the counter added after it, at an element. -/
theorem rounds2 (V : Valuation τ sig (Elt F)) (i : S8192x5120.Idx) :
    ((after opsT2 V (Proc.devRef .tc main_call0_call0_v103) : IVec S8192x5120 32) i, (after opsT2 V (Proc.devRef .tc main_call0_call0_v107) : IVec S8192x5120 32) i)
      = Words.injOf (spread (V (Proc.devRef .tc main_call0_v5) : IVec S_ 32) i) (spread (V (Proc.devRef .tc main_call0_v7) : IVec S_ 32) i) 3#32
          (Words.even ((V (Proc.devRef .tc main_call0_call0_v69) : IVec S8192x5120 32) i, (V (Proc.devRef .tc main_call0_call0_v73) : IVec S8192x5120 32) i)) := by
  refine Prod.ext ?_ ?_
  · after_reads_simp
    sl_kernel_rfl
  · after_reads_simp
    sl_kernel_rfl

/-- Group 4 of the rounds, with the two keys and the counter added after it, at an element. -/
theorem rounds3 (V : Valuation τ sig (Elt F)) (i : S8192x5120.Idx) :
    ((after opsT3 V (Proc.devRef .tc main_call0_call0_v137) : IVec S8192x5120 32) i, (after opsT3 V (Proc.devRef .tc main_call0_call0_v141) : IVec S8192x5120 32) i)
      = Words.injOf (spread (V (Proc.devRef .tc main_call0_v7) : IVec S_ 32) i) (spread (V (Proc.devRef .tc main_call0_call0_v1) : IVec S_ 32) i) 4#32
          (Words.odd ((V (Proc.devRef .tc main_call0_call0_v103) : IVec S8192x5120 32) i, (V (Proc.devRef .tc main_call0_call0_v107) : IVec S8192x5120 32) i)) := by
  refine Prod.ext ?_ ?_
  · after_reads_simp
    sl_kernel_rfl
  · after_reads_simp
    sl_kernel_rfl

/-- Group 5 of the rounds, with the two keys and the counter added after it, at an element. -/
theorem rounds4 (V : Valuation τ sig (Elt F)) (i : S8192x5120.Idx) :
    ((after opsT4 V (Proc.devRef .tc main_call0_v19_0) : IVec S8192x5120 32) i, (after opsT4 V (Proc.devRef .tc main_call0_v19_1) : IVec S8192x5120 32) i)
      = Words.injOf (spread (V (Proc.devRef .tc main_call0_call0_v1) : IVec S_ 32) i) (spread (V (Proc.devRef .tc main_call0_v5) : IVec S_ 32) i) 5#32
          (Words.even ((V (Proc.devRef .tc main_call0_call0_v137) : IVec S8192x5120 32) i, (V (Proc.devRef .tc main_call0_call0_v141) : IVec S8192x5120 32) i)) := by
  refine Prod.ext ?_ ?_
  · after_reads_simp
    sl_kernel_rfl
  · after_reads_simp
    sl_kernel_rfl

/-- The low word of the seed. -/
theorem seed_low (V : Valuation τ sig (Elt F)) (j : S1.Idx) : (upto opsKey V 9 (Proc.devRef .tc main_v18) : IVec S1 32) j = 42#32 := by
  after_reads_simp
  show 42#32 &&& 4294967295#32 = 42#32
  decide

/-- The first key, 0. -/
theorem key0 (V : Valuation τ sig (Elt F)) (i : S8192x5120.Idx) : spread (after opsKey V (Proc.devRef .tc main_call0_v5) : IVec S_ 32) i = 0#32 := by
  after_reads_simp
  sl_kernel_rfl

/-- The second element of two one-element arrays end to end. -/
theorem second (x y : IVec S1 32) (h : Shape.Concatenates [S1, S1] S2 0) :
    concatenate S2 0 [⟨S1, x⟩, ⟨S1, y⟩] h (ix1 1) = y (ix1 0) := by
  refine concatenate_pair_apply_right (t := S2) (s₁ := S1) (s₂ := S1) 0 x y h (ix1 1) rfl rfl (ix1 0) ?_ rfl
  intro b hb
  exact absurd (Subsingleton.elim (α := Fin 1) _ _) hb

/-- The second key, 42. -/
theorem key1 (V : Valuation τ sig (Elt F)) (i : S8192x5120.Idx) : spread (after opsKey V (Proc.devRef .tc main_call0_v7) : IVec S_ 32) i = 42#32 := by
  have h : ∀ x : IVec S2 32, spread (shapeCast S_ (extractStridedSlice S1 ![1] x slices_S2_S1_1) shapeCasts_S1_S_) i = x (ix1 1) := fun x => by
    have hc : ∀ (y : IVec S1 32) (j : S_.Idx), shapeCast S_ y shapeCasts_S1_S_ j = y (ix1 0) := fun y j =>
      congrArg y (funext fun a => by fin_cases a; exact Subsingleton.elim (α := Fin 1) _ _)
    refine (hc _ _).trans (congrArg x (funext fun a => ?_))
    fin_cases a
    rfl
  after_reads_simp
  exact ((h _).trans (second _ _ _)).trans (seed_low V _)

/-- The third key. -/
theorem key2 (V : Valuation τ sig (Elt F)) (i : S8192x5120.Idx) : spread (after opsKey V (Proc.devRef .tc main_call0_call0_v1) : IVec S_ 32) i = 466689008#32 := by
  have h : spread (after opsKey V (Proc.devRef .tc main_call0_call0_v1) : IVec S_ 32) i
      = (spread (after opsKey V (Proc.devRef .tc main_call0_v5) : IVec S_ 32) i ^^^ spread (after opsKey V (Proc.devRef .tc main_call0_v7) : IVec S_ 32) i) ^^^ 466688986#32 := by
    after_reads_simp
    rfl
  rw [h, key0, key1]
  decide

/-- The start of the hash at an element: the two halves of its row-major position, and the keys. -/
theorem start (V : Valuation τ sig (Elt F)) (i : S8192x5120.Idx) :
    ((after opsKey V (Proc.devRef .tc main_call0_call0_v3) : IVec S8192x5120 32) i, (after opsKey V (Proc.devRef .tc main_call0_call0_v5) : IVec S8192x5120 32) i)
      = (BitVec.setWidth 32 ((5120#64 * BitVec.ofNat 64 (i 0).val + 1#64 * BitVec.ofNat 64 (i 1).val) >>> 32#64) + 0#32,
          BitVec.setWidth 32 (5120#64 * BitVec.ofNat 64 (i 0).val + 1#64 * BitVec.ofNat 64 (i 1).val) + 42#32) := by
  refine Prod.ext ?_ ?_
  · after_reads_simp
    sl_kernel_rfl
  · after_reads_simp
    sl_kernel_rfl

/-- What this group leaves alone, of what is read later. -/
theorem kept_T0 (V : Valuation τ sig (Elt F)) :
    after opsT0 V (Proc.devRef .tc main_call0_v5) = V (Proc.devRef .tc main_call0_v5)
    ∧ after opsT0 V (Proc.devRef .tc main_call0_v7) = V (Proc.devRef .tc main_call0_v7)
    ∧ after opsT0 V (Proc.devRef .tc main_call0_call0_v1) = V (Proc.devRef .tc main_call0_call0_v1)
    ∧ after opsT0 V (Proc.devRef .tc main_call0_v2) = V (Proc.devRef .tc main_call0_v2)
    ∧ after opsT0 V (Proc.devRef .tc main_call0_v3) = V (Proc.devRef .tc main_call0_v3)
    ∧ after opsT0 V (Proc.devRef .tc main_v2) = V (Proc.devRef .tc main_v2)
    ∧ after opsT0 V (Proc.devRef .tc main_v12) = V (Proc.devRef .tc main_v12)
    ∧ after opsT0 V (Proc.devRef .tc main_arg0) = V (Proc.devRef .tc main_arg0)
    ∧ after opsT0 V (Proc.devRef .tc main_arg1) = V (Proc.devRef .tc main_arg1) := by
  refine ⟨?_, ?_, ?_, ?_, ?_, ?_, ?_, ?_, ?_⟩ <;> after_reads_simp

/-- What this group leaves alone, of what is read later. -/
theorem kept_T1 (V : Valuation τ sig (Elt F)) :
    after opsT1 V (Proc.devRef .tc main_call0_v5) = V (Proc.devRef .tc main_call0_v5)
    ∧ after opsT1 V (Proc.devRef .tc main_call0_v7) = V (Proc.devRef .tc main_call0_v7)
    ∧ after opsT1 V (Proc.devRef .tc main_call0_call0_v1) = V (Proc.devRef .tc main_call0_call0_v1)
    ∧ after opsT1 V (Proc.devRef .tc main_call0_v2) = V (Proc.devRef .tc main_call0_v2)
    ∧ after opsT1 V (Proc.devRef .tc main_call0_v3) = V (Proc.devRef .tc main_call0_v3)
    ∧ after opsT1 V (Proc.devRef .tc main_v2) = V (Proc.devRef .tc main_v2)
    ∧ after opsT1 V (Proc.devRef .tc main_v12) = V (Proc.devRef .tc main_v12)
    ∧ after opsT1 V (Proc.devRef .tc main_arg0) = V (Proc.devRef .tc main_arg0)
    ∧ after opsT1 V (Proc.devRef .tc main_arg1) = V (Proc.devRef .tc main_arg1) := by
  refine ⟨?_, ?_, ?_, ?_, ?_, ?_, ?_, ?_, ?_⟩ <;> after_reads_simp

/-- What this group leaves alone, of what is read later. -/
theorem kept_T2 (V : Valuation τ sig (Elt F)) :
    after opsT2 V (Proc.devRef .tc main_call0_v5) = V (Proc.devRef .tc main_call0_v5)
    ∧ after opsT2 V (Proc.devRef .tc main_call0_v7) = V (Proc.devRef .tc main_call0_v7)
    ∧ after opsT2 V (Proc.devRef .tc main_call0_call0_v1) = V (Proc.devRef .tc main_call0_call0_v1)
    ∧ after opsT2 V (Proc.devRef .tc main_call0_v2) = V (Proc.devRef .tc main_call0_v2)
    ∧ after opsT2 V (Proc.devRef .tc main_call0_v3) = V (Proc.devRef .tc main_call0_v3)
    ∧ after opsT2 V (Proc.devRef .tc main_v2) = V (Proc.devRef .tc main_v2)
    ∧ after opsT2 V (Proc.devRef .tc main_v12) = V (Proc.devRef .tc main_v12)
    ∧ after opsT2 V (Proc.devRef .tc main_arg0) = V (Proc.devRef .tc main_arg0)
    ∧ after opsT2 V (Proc.devRef .tc main_arg1) = V (Proc.devRef .tc main_arg1) := by
  refine ⟨?_, ?_, ?_, ?_, ?_, ?_, ?_, ?_, ?_⟩ <;> after_reads_simp

/-- What this group leaves alone, of what is read later. -/
theorem kept_T3 (V : Valuation τ sig (Elt F)) :
    after opsT3 V (Proc.devRef .tc main_call0_v5) = V (Proc.devRef .tc main_call0_v5)
    ∧ after opsT3 V (Proc.devRef .tc main_call0_v7) = V (Proc.devRef .tc main_call0_v7)
    ∧ after opsT3 V (Proc.devRef .tc main_call0_call0_v1) = V (Proc.devRef .tc main_call0_call0_v1)
    ∧ after opsT3 V (Proc.devRef .tc main_call0_v2) = V (Proc.devRef .tc main_call0_v2)
    ∧ after opsT3 V (Proc.devRef .tc main_call0_v3) = V (Proc.devRef .tc main_call0_v3)
    ∧ after opsT3 V (Proc.devRef .tc main_v2) = V (Proc.devRef .tc main_v2)
    ∧ after opsT3 V (Proc.devRef .tc main_v12) = V (Proc.devRef .tc main_v12)
    ∧ after opsT3 V (Proc.devRef .tc main_arg0) = V (Proc.devRef .tc main_arg0)
    ∧ after opsT3 V (Proc.devRef .tc main_arg1) = V (Proc.devRef .tc main_arg1) := by
  refine ⟨?_, ?_, ?_, ?_, ?_, ?_, ?_, ?_, ?_⟩ <;> after_reads_simp

/-- What this group leaves alone, of what is read later. -/
theorem kept_T4 (V : Valuation τ sig (Elt F)) :
    after opsT4 V (Proc.devRef .tc main_call0_v5) = V (Proc.devRef .tc main_call0_v5)
    ∧ after opsT4 V (Proc.devRef .tc main_call0_v7) = V (Proc.devRef .tc main_call0_v7)
    ∧ after opsT4 V (Proc.devRef .tc main_call0_call0_v1) = V (Proc.devRef .tc main_call0_call0_v1)
    ∧ after opsT4 V (Proc.devRef .tc main_call0_v2) = V (Proc.devRef .tc main_call0_v2)
    ∧ after opsT4 V (Proc.devRef .tc main_call0_v3) = V (Proc.devRef .tc main_call0_v3)
    ∧ after opsT4 V (Proc.devRef .tc main_v2) = V (Proc.devRef .tc main_v2)
    ∧ after opsT4 V (Proc.devRef .tc main_v12) = V (Proc.devRef .tc main_v12)
    ∧ after opsT4 V (Proc.devRef .tc main_arg0) = V (Proc.devRef .tc main_arg0)
    ∧ after opsT4 V (Proc.devRef .tc main_arg1) = V (Proc.devRef .tc main_arg1) := by
  refine ⟨?_, ?_, ?_, ?_, ?_, ?_, ?_, ?_, ?_⟩ <;> after_reads_simp

/-- What this group leaves alone, of what is read later. -/
theorem kept_Soft (V : Valuation τ sig (Elt F)) :
    after opsSoft V (Proc.devRef .tc main_arg0) = V (Proc.devRef .tc main_arg0)
    ∧ after opsSoft V (Proc.devRef .tc main_arg1) = V (Proc.devRef .tc main_arg1) := by
  refine ⟨?_, ?_⟩ <;> after_reads_simp

/-- What this group leaves alone, of what is read later. -/
theorem kept_Key (V : Valuation τ sig (Elt F)) :
    after opsKey V (Proc.devRef .tc main_v2) = V (Proc.devRef .tc main_v2)
    ∧ after opsKey V (Proc.devRef .tc main_v12) = V (Proc.devRef .tc main_v12)
    ∧ after opsKey V (Proc.devRef .tc main_arg0) = V (Proc.devRef .tc main_arg0)
    ∧ after opsKey V (Proc.devRef .tc main_arg1) = V (Proc.devRef .tc main_arg1) := by
  refine ⟨?_, ?_, ?_, ?_⟩ <;> after_reads_simp

/-- What this group leaves alone, of what is read later. -/
theorem kept_Uni (V : Valuation τ sig (Elt F)) :
    after opsUni V (Proc.devRef .tc main_v2) = V (Proc.devRef .tc main_v2)
    ∧ after opsUni V (Proc.devRef .tc main_v12) = V (Proc.devRef .tc main_v12)
    ∧ after opsUni V (Proc.devRef .tc main_arg0) = V (Proc.devRef .tc main_arg0)
    ∧ after opsUni V (Proc.devRef .tc main_arg1) = V (Proc.devRef .tc main_arg1) := by
  refine ⟨?_, ?_, ?_, ?_⟩ <;> after_reads_simp

/-- What this group leaves alone, of what is read later. -/
theorem kept_Score (V : Valuation τ sig (Elt F)) :
    after opsScore V (Proc.devRef .tc main_v12) = V (Proc.devRef .tc main_v12)
    ∧ after opsScore V (Proc.devRef .tc main_arg0) = V (Proc.devRef .tc main_arg0)
    ∧ after opsScore V (Proc.devRef .tc main_arg1) = V (Proc.devRef .tc main_arg1) := by
  refine ⟨?_, ?_, ?_⟩ <;> after_reads_simp

/-- What this group leaves alone, of what is read later. -/
theorem kept_Arg (V : Valuation τ sig (Elt F)) :
    after opsArg V (Proc.devRef .tc main_v12) = V (Proc.devRef .tc main_v12)
    ∧ after opsArg V (Proc.devRef .tc main_arg0) = V (Proc.devRef .tc main_arg0)
    ∧ after opsArg V (Proc.devRef .tc main_arg1) = V (Proc.devRef .tc main_arg1) := by
  refine ⟨?_, ?_, ?_⟩ <;> after_reads_simp

/-- What this group leaves alone, of what is read later. -/
theorem kept_Div (V : Valuation τ sig (Elt F)) :
    after opsDiv V (Proc.devRef .tc main_v28) = V (Proc.devRef .tc main_v28)
    ∧ after opsDiv V (Proc.devRef .tc main_v12) = V (Proc.devRef .tc main_v12)
    ∧ after opsDiv V (Proc.devRef .tc main_arg0) = V (Proc.devRef .tc main_arg0)
    ∧ after opsDiv V (Proc.devRef .tc main_arg1) = V (Proc.devRef .tc main_arg1) := by
  refine ⟨?_, ?_, ?_, ?_⟩ <;> after_reads_simp

/-- What this group leaves alone, of what is read later. -/
theorem kept_Rem (V : Valuation τ sig (Elt F)) :
    after opsRem V (Proc.devRef .tc main_v29) = V (Proc.devRef .tc main_v29)
    ∧ after opsRem V (Proc.devRef .tc main_v12) = V (Proc.devRef .tc main_v12)
    ∧ after opsRem V (Proc.devRef .tc main_arg0) = V (Proc.devRef .tc main_arg0)
    ∧ after opsRem V (Proc.devRef .tc main_arg1) = V (Proc.devRef .tc main_arg1) := by
  refine ⟨?_, ?_, ?_, ?_⟩ <;> after_reads_simp

/-- What this group leaves alone, of what is read later. -/
theorem kept_Tok (V : Valuation τ sig (Elt F)) :
    after opsTok V (Proc.devRef .tc main_v29) = V (Proc.devRef .tc main_v29)
    ∧ after opsTok V (Proc.devRef .tc main_v30) = V (Proc.devRef .tc main_v30)
    ∧ after opsTok V (Proc.devRef .tc main_v12) = V (Proc.devRef .tc main_v12)
    ∧ after opsTok V (Proc.devRef .tc main_arg0) = V (Proc.devRef .tc main_arg0)
    ∧ after opsTok V (Proc.devRef .tc main_arg1) = V (Proc.devRef .tc main_arg1) := by
  refine ⟨?_, ?_, ?_, ?_, ?_⟩ <;> after_reads_simp

/-- What this group leaves alone, of what is read later. -/
theorem kept_Mut (V : Valuation τ sig (Elt F)) :
    after opsMut V (Proc.devRef .tc main_v12) = V (Proc.devRef .tc main_v12)
    ∧ after opsMut V (Proc.devRef .tc main_arg0) = V (Proc.devRef .tc main_arg0)
    ∧ after opsMut V (Proc.devRef .tc main_arg1) = V (Proc.devRef .tc main_arg1) := by
  refine ⟨?_, ?_, ?_⟩ <;> after_reads_simp

/-- The counter word of an element: its row-major position, and the key. -/
def ctr (i : S8192x5120.Idx) : BitVec 32 := BitVec.ofNat 32 (5120 * (i 0).val + (i 1).val) + 42#32

/-- The low half of a 64-bit position is the 32-bit position. -/
theorem low_word (a b : ℕ) : BitVec.setWidth 32 (5120#64 * BitVec.ofNat 64 a + 1#64 * BitVec.ofNat 64 b) = BitVec.ofNat 32 (5120 * a + b) := by
  apply BitVec.eq_of_toNat_eq
  simp

/-- The high half of a position is nought. -/
theorem high_word (a b : ℕ) (ha : a < 8192) (hb : b < 5120) :
    BitVec.setWidth 32 ((5120#64 * BitVec.ofNat 64 a + 1#64 * BitVec.ofNat 64 b) >>> 32#64) = 0#32 := by
  apply BitVec.eq_of_toNat_eq
  simp only [BitVec.toNat_setWidth, BitVec.toNat_ushiftRight, BitVec.toNat_add, BitVec.toNat_mul, BitVec.toNat_ofNat, Nat.shiftRight_eq_div_pow]
  have h : 5120 * a + b < 4294967296 := by omega
  norm_num
  rw [Nat.mod_eq_of_lt (show 5120 * a + b < 18446744073709551616 by omega), Nat.shiftRight_eq_div_pow, Nat.div_eq_of_lt h]

/-- The five groups of rounds, from the start the reference gives them, are the hash of the counter word. -/
theorem hashed (V : Valuation τ sig (Elt F)) (i : S8192x5120.Idx) :
    let V5 := after opsT4 (after opsT3 (after opsT2 (after opsT1 (after opsT0 (after opsKey V)))))
    ((V5 (Proc.devRef .tc main_call0_v19_0) : IVec S8192x5120 32) i, (V5 (Proc.devRef .tc main_call0_v19_1) : IVec S8192x5120 32) i)
      = Words.hash (ctr i) := by
  dsimp only
  rw [rounds4, rounds3, rounds2, rounds1, rounds0, start]
  simp only [(kept_T0 _).1, (kept_T0 _).2.1, (kept_T0 _).2.2.1, (kept_T1 _).1, (kept_T1 _).2.1, (kept_T1 _).2.2.1,
    (kept_T2 _).1, (kept_T2 _).2.1, (kept_T2 _).2.2.1, (kept_T3 _).1, (kept_T3 _).2.1, (kept_T3 _).2.2.1]
  rw [key0 V i, key1 V i, key2 V i]
  rw [low_word, high_word _ _ (i 0).isLt (i 1).isLt, Words.hash_eq]
  simp only [Words.injOf_eq, BitVec.reduceAdd, BitVec.zero_add, ctr]

/-- The reference's uniform draw at an element, as its operations compute it from the hash. -/
theorem uniform (V : Valuation τ sig (Elt F)) (i : S8192x5120.Idx) :
    (after opsUni V (Proc.devRef .tc main_v20) : FVec F S8192x5120 .f32) i
      = (let lo := broadcastInDim S8192x5120 ![0, 1] bcast_S1x1_S8192x5120_0_1 (V (Proc.devRef .tc main_call0_v2) : FVec F S1x1 .f32) i
         let d := broadcastInDim S8192x5120 ![0, 1] bcast_S1x1_S8192x5120_0_1
           (subf (V (Proc.devRef .tc main_call0_v3) : FVec F S1x1 .f32) (V (Proc.devRef .tc main_call0_v2) : FVec F S1x1 .f32)) i
         FloatOps.maximumf lo (FloatOps.addf (FloatOps.mulf (FloatOps.subf (FloatOps.ofBits .f32
           ((((show BitVec 32 from (V (Proc.devRef .tc main_call0_v19_0) : IVec S8192x5120 32) i) ^^^ (show BitVec 32 from (V (Proc.devRef .tc main_call0_v19_1) : IVec S8192x5120 32) i)) >>> 9#32) ||| 1065353216#32))
           (FloatOps.ofBits .f32 0x3F800000#32)) d) lo)) := by
  after_reads_simp
  sl_kernel_rfl

/-- The bounds of the draws: nought and one, at every index. -/
theorem bounds (V : Valuation τ sig (Elt F)) :
    (after opsKey V (Proc.devRef .tc main_call0_v2) : FVec F S1x1 .f32) = (fun _ => FloatOps.ofBits .f32 0#32)
    ∧ (after opsKey V (Proc.devRef .tc main_call0_v3) : FVec F S1x1 .f32) = (fun _ => FloatOps.ofBits .f32 0x3F800000#32) := by
  refine ⟨?_, ?_⟩
  · after_reads_simp
    sl_kernel_rfl
  · after_reads_simp
    sl_kernel_rfl

end Cert.ReferenceIdeal.RV
-- ==== Proof.RChain.lean ====
module

public import proofs.«01_k».proof.Proof.RArg
public import proofs.«01_k».proof.Proof.RVal

/-! The reference's results, read from its arguments through its groups of operations. -/

@[expose] public section

set_option maxRecDepth 65536

noncomputable section

namespace Cert.ReferenceIdeal.RV

open Cert.ReferenceIdeal Cert.ReferenceIdeal.Gen
open Idealize.ShloMosaic Idealize.ShloMosaic.TcCoe Idealize.ShloMosaic.StableHlo Idealize.SL.Sem
open Idealize.ShloMosaic.ValueIdx
open Cert.Spec

attribute [local irreducible] Words.bits Words.hash unif

variable {F : FTy → Type} [FloatOps F]

/-- Running one list of operations and then another is running the two in a row. -/
theorem after_join (l k : List (HloOp τ sig (Elt F))) : ∀ V : Valuation τ sig (Elt F), after (l ++ k) V = after k (after l V) := by
  induction l with
  | nil => exact fun _ => rfl
  | cons _ _ ih => exact fun _ => ih _

/-- The contents after the keys and the hash of the counters. -/
def afterHash (V : Valuation τ sig (Elt F)) : Valuation τ sig (Elt F) :=
  after opsT4 (after opsT3 (after opsT2 (after opsT1 (after opsT0 (after opsKey V)))))

/-- What the hash's groups leave alone. -/
theorem kept_Hash (V : Valuation τ sig (Elt F)) :
    afterHash V (Proc.devRef .tc main_call0_v2) = after opsKey V (Proc.devRef .tc main_call0_v2)
    ∧ afterHash V (Proc.devRef .tc main_call0_v3) = after opsKey V (Proc.devRef .tc main_call0_v3)
    ∧ afterHash V (Proc.devRef .tc main_v2) = V (Proc.devRef .tc main_v2)
    ∧ afterHash V (Proc.devRef .tc main_v12) = V (Proc.devRef .tc main_v12)
    ∧ afterHash V (Proc.devRef .tc main_arg0) = V (Proc.devRef .tc main_arg0)
    ∧ afterHash V (Proc.devRef .tc main_arg1) = V (Proc.devRef .tc main_arg1) := by
  unfold afterHash
  obtain ⟨_, _, _, a3, b3, c3, d3, e3, f3⟩ := kept_T0 (after opsKey V)
  obtain ⟨_, _, _, a4, b4, c4, d4, e4, f4⟩ := kept_T1 (after opsT0 (after opsKey V))
  obtain ⟨_, _, _, a5, b5, c5, d5, e5, f5⟩ := kept_T2 (after opsT1 (after opsT0 (after opsKey V)))
  obtain ⟨_, _, _, a6, b6, c6, d6, e6, f6⟩ := kept_T3 (after opsT2 (after opsT1 (after opsT0 (after opsKey V))))
  have h7 := kept_T4 (after opsT3 (after opsT2 (after opsT1 (after opsT0 (after opsKey V)))))
  obtain ⟨c8, d8, e8, f8⟩ := kept_Key V
  simp only [h7, a6, b6, c6, d6, e6, f6, a5, b5, c5, d5, e5, f5, a4, b4, c4, d4, e4, f4, a3, b3, c3, d3, e3, f3, c8, d8, e8, f8, and_self]

/-- The contents after the draws. -/
def afterDraws (V : Valuation τ sig (Elt F)) : Valuation τ sig (Elt F) := after opsUni (afterHash (after opsSoft V))

/-- The contents after the arg-max. -/
def afterArg (V : Valuation τ sig (Elt F)) : Valuation τ sig (Elt F) := after opsArg (after opsScore (afterDraws V))

/-- The contents after the tokens. -/
def afterTok (V : Valuation τ sig (Elt F)) : Valuation τ sig (Elt F) := after opsTok (after opsRem (after opsDiv (afterArg V)))

/-- The contents at the end: the scatter after the tokens. -/
theorem ops_eq (V : Valuation τ sig (Elt F)) : after ops V = after opsMut (afterTok V) := by
  unfold afterTok afterArg afterDraws afterHash ops
  simp only [after_join]

/-- The softmax and the arguments at the end. -/
theorem kept (V : Valuation τ sig (Elt F)) :
    after ops V (Proc.devRef .tc main_v12) = after opsSoft V (Proc.devRef .tc main_v12)
    ∧ after ops V (Proc.devRef .tc main_arg0) = V (Proc.devRef .tc main_arg0)
    ∧ after ops V (Proc.devRef .tc main_arg1) = V (Proc.devRef .tc main_arg1) := by
  rw [ops_eq]
  unfold afterTok afterArg afterDraws
  refine ⟨?_, ?_, ?_⟩
  · rw [(kept_Mut _).1, (kept_Tok _).2.2.1, (kept_Rem _).2.1, (kept_Div _).2.1, (kept_Arg _).1, (kept_Score _).1, (kept_Uni _).2.1, (kept_Hash _).2.2.2.1]
  · rw [(kept_Mut _).2.1, (kept_Tok _).2.2.2.1, (kept_Rem _).2.2.1, (kept_Div _).2.2.1, (kept_Arg _).2.1, (kept_Score _).2.1, (kept_Uni _).2.2.1,
      (kept_Hash _).2.2.2.2.1, (kept_Soft _).1]
  · rw [(kept_Mut _).2.2, (kept_Tok _).2.2.2.2, (kept_Rem _).2.2.2, (kept_Div _).2.2.2, (kept_Arg _).2.2, (kept_Score _).2.2, (kept_Uni _).2.2.2,
      (kept_Hash _).2.2.2.2.2, (kept_Soft _).2]

/-- A draw scaled into [0, 1) from a number already there. -/
theorem scale_draw (b : BitVec 32) (u : ℝ) (h0 : 0 ≤ u) (hb : Ideal.ofBits .f32 b - 1 = (u : EReal)) :
    max (Ideal.ofBits .f32 0#32) ((Ideal.ofBits .f32 b - Ideal.ofBits .f32 0x3F800000#32)
      * (Ideal.ofBits .f32 0x3F800000#32 - Ideal.ofBits .f32 0#32) + Ideal.ofBits .f32 0#32) = (u : EReal) := by
  rw [Ideal.ofBits_zero_f32, Ideal.ofBits_one_f32, hb, sub_zero, mul_one, add_zero]
  exact max_eq_right (by exact_mod_cast h0)

/-- A draw is the number of its counter word. -/
theorem draw_apply (V : Valuation τ sig (Elt Ideal)) (i : S8192x5120.Idx) :
    (after opsUni (afterHash V) (Proc.devRef .tc main_v20) : FVec Ideal S8192x5120 .f32) i = ((unif (ctr i) : ℝ) : EReal) := by
  rw [uniform, (kept_Hash V).1, (kept_Hash V).2.1, (bounds V).1, (bounds V).2]
  have hh := hashed V i
  dsimp only at hh
  have h1 := congrArg Prod.fst hh
  have h2 := congrArg Prod.snd hh
  dsimp only at h1 h2
  refine Eq.trans ?_ (scale_draw (Words.bits (ctr i)) (unif (ctr i)) (unif_nonneg _) (bits_sub_one _))
  have hb : Words.bits (ctr i) = (((Words.hash (ctr i)).1 ^^^ (Words.hash (ctr i)).2) >>> 9#32) ||| 1065353216#32 := by
    unfold Words.bits
    rfl
  rw [hb, ← h1, ← h2]
  rfl

/-- A word of a number is not below the word of a number no greater. -/
theorem not_below {a b : ℕ} (h : b ≤ a) (ha : a < 5120) : ¬ (BitVec.ofNat 32 a).slt (BitVec.ofNat 32 b) := by
  have t : ∀ c : ℕ, c < 5120 → (BitVec.ofNat 32 c).toInt = c := fun c hc => by
    have hn : (BitVec.ofNat 32 c).toNat = c := by
      rw [BitVec.toNat_ofNat]
      omega
    rw [BitVec.toInt_eq_toNat_of_lt (by omega), hn]
  rw [BitVec.slt_iff_toInt_lt, t a ha, t b (by omega)]
  omega

/-- The greatest score of a row, first of its equals, sits where the race's least value does. -/
theorem winner_apply (V : Valuation τ sig (Elt Ideal)) (l : Fin 5120 → EReal) (hl : ∀ k, l k < ⊤)
    (hv : ∀ k, (V (Proc.devRef .tc main_v2) : FVec Ideal S5120 .f32) (ix1 k) = l k)
    (hu : ∀ i, (V (Proc.devRef .tc main_v20) : FVec Ideal S8192x5120 .f32) i = ((unif (ctr i) : ℝ) : EReal))
    (r : Fin 8192) (m : EReal) (n : ℕ)
    (h : FirstMin (fun k => raced (unif (BitVec.ofNat 32 (5120 * r.val + k) + 42#32)) (if h : k < 5120 then l ⟨k, h⟩ else 0)) 0 5120 m n) :
    (after opsArg (after opsScore V) (Proc.devRef .tc main_v28) : IVec S8192 32) (ix1 r) = BitVec.ofNat 32 n := by
  obtain ⟨hle, hlt⟩ := first_greatest (u := fun k => unif (BitVec.ofNat 32 (5120 * r.val + k) + 42#32))
    (l := fun k => if h : k < 5120 then l ⟨k, h⟩ else 0) (fun _ => unif_nonneg _) (fun _ => unif_lt_one _)
    (fun k hk => by rw [dif_pos hk]; exact hl _) h
  have hn := h.lt
  have hs : ∀ k : Fin 5120, (after opsScore V (Proc.devRef .tc main_v27) : FVec Ideal S8192x5120 .f32) (ix2 r k)
      = score (unif (BitVec.ofNat 32 (5120 * r.val + k.val) + 42#32)) (if h : k.val < 5120 then l ⟨k.val, h⟩ else 0) := fun k => by
    refine (score_apply V (ix2 r k)).trans ?_
    rw [hu, dif_pos k.isLt]
    exact congrArg (fun v : EReal => -(Ideal.log (-(Ideal.log (unif (ctr (ix2 r k)))))) + v) (hv k)
  rw [arg_apply]
  obtain ⟨S, hS⟩ : ∃ S : FVec Ideal S8192x5120 .f32, (after opsScore V (Proc.devRef .tc main_v27) : FVec Ideal S8192x5120 .f32) = S := ⟨_, rfl⟩
  rw [hS] at hs ⊢
  have hk : ∀ k : S8192x5120.Idx, reducesTo_S8192x5120_S8192_d1.drop k = ix1 r → k = ix2 r (k 1) := fun k e => funext fun a => by
    fin_cases a
    · exact congrFun e 0
    · rfl
  refine arg_of S (iotaInDim S8192x5120 32 1) reducesTo_S8192x5120_S8192_d1 (ix1 r) (ix2 r ⟨n, hn⟩) ?_ ?_ ?_
  · funext a
    fin_cases a
    rfl
  · intro k e
    obtain ⟨q, rfl⟩ : ∃ q, k = ix2 r q := ⟨_, hk k e⟩
    have hq := hle q.val q.isLt
    have hq' := hlt q.val
    unfold Under
    show (S (ix2 r q) : EReal) < S (ix2 r ⟨n, hn⟩) ∨ (S (ix2 r q) : EReal) = S (ix2 r ⟨n, hn⟩) ∧ ¬ (BitVec.ofNat 32 q.val).slt (BitVec.ofNat 32 n)
    rw [hs q, hs ⟨n, hn⟩]
    rcases Nat.lt_or_ge q.val n with hlt' | hge
    · exact .inl (hq' hlt')
    · rcases hq.lt_or_eq with h1 | h1
      · exact .inl h1
      · exact .inr ⟨h1, not_below hge q.isLt⟩
  · intro e
    rw [hs ⟨n, hn⟩] at e
    rcases Nat.eq_zero_or_pos n with h0 | h0
    · show BitVec.ofNat 32 n = 0#32
      rw [h0]
    · have := hlt 0 h0
      rw [e] at this
      exact absurd this not_lt_bot

/-- A one-hot row's arg-max is the index of its one. -/
theorem token_apply (V : Valuation τ sig (Elt Ideal)) (r : Fin 8192) (t : Fin 256) (a : Fin 20)
    (x : FVec Ideal S1x256x20 .f32) (hx : (V (Proc.devRef .tc main_arg0) : FVec Ideal S1x256x20 .f32) = x)
    (h : ∀ b : Fin 20, x (ix3 0 t b) = if b = a then (1 : EReal) else 0) :
    (after opsTok V (Proc.devRef .tc main_v36) : IVec S8192x256 32) (ix2 r t) = BitVec.ofNat 32 a.val := by
  rw [tok_apply, hx]
  have hk : ∀ k : S1x256x20.Idx, reducesTo_S1x256x20_S1x256_d2.drop k = ix2 0 t → k = ix3 0 t (k 2) := fun k e => funext fun b => by
    fin_cases b
    · exact congrFun e 0
    · exact congrFun e 1
    · rfl
  refine arg_of x (iotaInDim S1x256x20 32 2) reducesTo_S1x256x20_S1x256_d2 (ix2 0 t) (ix3 0 t a) ?_ ?_ ?_
  · funext b
    fin_cases b <;> rfl
  · intro k e
    obtain ⟨q, rfl⟩ : ∃ q, k = ix3 0 t q := ⟨_, hk k e⟩
    unfold Under
    show (x (ix3 0 t q) : EReal) < x (ix3 0 t a) ∨ (x (ix3 0 t q) : EReal) = x (ix3 0 t a) ∧ ¬ (BitVec.ofNat 32 q.val).slt (BitVec.ofNat 32 a.val)
    rw [h q, h a, if_pos rfl]
    split_ifs with hq
    · subst hq
      exact .inr ⟨rfl, not_below le_rfl (by have := q.isLt; omega)⟩
    · exact .inl zero_lt_one
  · intro e
    rw [h a, if_pos rfl] at e
    exact absurd e (by decide)

/-- The mutated sequences: the row's letter at the row's position, the tokens elsewhere. -/
theorem mutated (V : Valuation τ sig (Elt Ideal)) (l : Fin 5120 → EReal) (hl : ∀ k, l k < ⊤)
    (hv : ∀ k, (after opsSoft V (Proc.devRef .tc main_v2) : FVec Ideal S5120 .f32) (ix1 k) = l k) (n : ℕ → ℕ)
    (h : ∀ r, r < 8192 → ∃ m, FirstMin (fun k => raced (unif (BitVec.ofNat 32 (5120 * r + k) + 42#32)) (if h : k < 5120 then l ⟨k, h⟩ else 0)) 0 5120 m (n r))
    (a : Fin 256 → Fin 20)
    (ha : ∀ t b, (V (Proc.devRef .tc main_arg0) : FVec Ideal S1x256x20 .f32) (ix3 0 t b) = if b = a t then (1 : EReal) else 0)
    (r : Fin 8192) (p : Fin 256) :
    (after ops V (Proc.devRef .tc main_v51) : IVec S8192x256 32) (ix2 r p)
      = if p.val = n r.val / 20 then BitVec.ofNat 32 (n r.val % 20) else BitVec.ofNat 32 (a p).val := by
  have hn : ∀ r, r < 8192 → n r < 5120 := fun r hr => (h r hr).choose_spec.lt
  have hw : ∀ k : Fin 8192, (afterArg V (Proc.devRef .tc main_v28) : IVec S8192 32) (ix1 k) = BitVec.ofNat 32 (n k.val) := fun k => by
    obtain ⟨m, hm⟩ := h k.val k.isLt
    refine winner_apply (afterDraws V) l hl (fun q => ?_) (fun i => draw_apply _ i) k m (n k.val) hm
    unfold afterDraws
    rw [(kept_Uni _).1, (kept_Hash _).2.2.1]
    exact hv q
  rw [ops_eq, mut_apply (afterTok V) r p (fun r => n r / 20) (fun k hk => by have := hn k hk; omega) fun k => ?_]
  · unfold afterTok
    rw [(kept_Tok _).2.1, rem_apply, (kept_Div _).1, hw, (Words.div20_rem20 _ (hn r.val r.isLt)).2]
    rw [token_apply _ r p (a p) _ ?_ fun b => ha p b]
    unfold afterArg afterDraws
    rw [(kept_Rem _).2.2.1, (kept_Div _).2.2.1, (kept_Arg _).2.1, (kept_Score _).2.1, (kept_Uni _).2.2.1, (kept_Hash _).2.2.2.2.1, (kept_Soft _).1]
  · unfold afterTok
    rw [(kept_Tok _).1, (kept_Rem _).1, div_apply, hw, (Words.div20_rem20 _ (hn k.val k.isLt)).1]

end Cert.ReferenceIdeal.RV
-- ==== Proof.Decode.lean ====
/-
  The precondition read at an element: every row of the first argument is one-hot, every entry of the second is below +∞.
-/
module

public import proofs.«01_k».proof.Proof.Spec
public import proofs.«01_k».proof.Pre_one_hot_below_inf
public import Idealize.ShloMosaic.Lib.StableHlo.Predicate
public import Idealize.ShloMosaic.Lib.ValueIdx

@[expose] public section

noncomputable section

namespace Cert.Pre_one_hot_below_inf

open Idealize.ShloMosaic Idealize.ShloMosaic.ValueIdx Idealize.ShloMosaic.StableHlo.Predicate

/-- The shape relations the precondition states hold. -/
instance facts : Cert.Pre_one_hot_below_inf.Facts where
  bcast_S_S1x256x20 := by decide
  reducesTo_S1x256x20_S1x256_d2 := by decide
  h_S_ := by decide
  bcast_S_S1x256 := by decide
  bcast_S_S256x20 := by decide

/-- Summing an array of 256 rows over its last axis gives, at a row, the start value plus the row's entries. -/
theorem row_sum (x : FVec Ideal S1x256x20 .f32) (init : EReal) (h : S1x256x20.ReducesTo [2] S1x256) (t : Fin 256) :
    Ideal.hostReduceAdd h x init (ix2 0 t) = init + ∑ b : Fin 20, x (ix3 0 t b) := by
  have hr : S1x256x20.Reduces [2] S1x256 := by decide
  rw [Ideal.hostReduceAdd_single h hr]
  refine congrArg (init + ·) (Finset.sum_congr rfl fun b _ => congrArg x ?_)
  funext a
  match a with
  | ⟨0, _⟩ => rfl
  | ⟨1, _⟩ => rfl
  | ⟨2, _⟩ => rfl

/-- Twenty numbers, each 0 or 1, that sum to 1 are 1 at one place and 0 elsewhere. -/
theorem one_place (x : Fin 20 → EReal) (h : ∀ b, x b = 0 ∨ x b = 1) (hs : ∑ b, x b = 1) :
    ∃ a, ∀ b, x b = if b = a then 1 else 0 := by
  have hex : ∃ a, x a = 1 := by
    by_contra hn
    rw [not_exists] at hn
    rw [Finset.sum_eq_zero fun b _ => (h b).resolve_right (hn b)] at hs
    exact zero_ne_one hs
  obtain ⟨a, ha⟩ := hex
  refine ⟨a, fun b => ?_⟩
  by_cases hb : b = a
  · rw [if_pos hb, hb, ha]
  rw [if_neg hb]
  refine (h b).resolve_right fun hb1 => ?_
  have hle : ∑ k ∈ ({b, a} : Finset (Fin 20)), x k ≤ ∑ k, x k :=
    Finset.sum_le_sum_of_subset_of_nonneg (Finset.subset_univ _) fun k _ _ => by
      rcases h k with hk | hk <;> rw [hk] <;> first | exact le_refl _ | exact zero_le_one
  rw [Finset.sum_pair hb, hb1, ha, hs] at hle
  have : ((1 : ℝ) : EReal) + ((1 : ℝ) : EReal) ≤ ((1 : ℝ) : EReal) := by simpa using hle
  rw [← EReal.coe_add, EReal.coe_le_coe_iff] at this
  norm_num at this

/-- Where the precondition holds, each row of the first argument is 1 at one place and 0 elsewhere, and the second
    argument lies below +∞. -/
theorem decoded (x : FVec Ideal S1x256x20 .f32) (y : FVec Ideal S256x20 .f32)
    (h : (fn (F := Ideal) x y).1 = (fun _ => 1#1) ∧ (fn (F := Ideal) x y).2.1 = (fun _ => 1#1) ∧
      (fn (F := Ideal) x y).2.2 = (fun _ => 1#1)) :
    (∃ a : Fin 256 → Fin 20, ∀ t b, x (ix3 0 t b) = if b = a t then (1 : EReal) else 0) ∧ ∀ i, y i < (⊤ : EReal) := by
  obtain ⟨h1, h2, h3⟩ := h
  have hbit : ∀ i, x i = (0 : EReal) ∨ x i = (1 : EReal) := fun i => by
    have e : BitVec.ofBool (decide (x i = Ideal.ofBits .f32 0x00000000#32)) |||
        BitVec.ofBool (decide (x i = Ideal.ofBits .f32 0x3F800000#32)) = 1#1 := congrFun h1 i
    rw [Ideal.ofBits_zero_f32, Ideal.ofBits_one_f32] at e
    by_cases h0 : x i = (0 : EReal)
    · exact .inl h0
    by_cases h1' : x i = (1 : EReal)
    · exact .inr h1'
    rw [decide_eq_false h0, decide_eq_false h1'] at e
    exact absurd e (by decide)
  refine ⟨?_, fun i => ?_⟩
  · refine Classical.axiomOfChoice (r := fun t a => ∀ b, x (ix3 0 t b) = if b = a then (1 : EReal) else 0) fun t => ?_
    refine one_place (fun b => x (ix3 0 t b)) (fun b => hbit _) ?_
    have e : BitVec.ofBool (decide (Ideal.hostReduceAdd facts.reducesTo_S1x256x20_S1x256_d2 x
        (Ideal.ofBits .f32 0x00000000#32) (ix2 0 t) = Ideal.ofBits .f32 0x3F800000#32)) = 1#1 := congrFun h2 (ix2 0 t)
    rw [Ideal.ofBits_zero_f32, Ideal.ofBits_one_f32, row_sum, zero_add, ofBool_eq_one_iff, decide_eq_true_eq] at e
    exact e
  · have e : BitVec.ofBool (decide (y i < Ideal.ofBits .f32 0x7F800000#32)) = 1#1 := congrFun h3 i
    rw [ofBool_eq_one_iff, decide_eq_true_eq] at e
    rwa [show Ideal.ofBits .f32 0x7F800000#32 = ⊤ by simp [Ideal.ofBits, Ideal.ieee]] at e

end Cert.Pre_one_hot_below_inf
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KBits
public import proofs.«01_k».proof.Proof.KFinal
public import proofs.«01_k».proof.Proof.RChain
public import proofs.«01_k».proof.Proof.RRun
public import proofs.«01_k».proof.Proof.Decode
public import Idealize.ShloMosaic.Adequacy
public import Idealize.ShloMosaic.Init

@[expose] public section

set_option maxRecDepth 65536

noncomputable section

namespace Cert.Proof

open Idealize.ShloMosaic Idealize.SL.Sem Idealize.ShloMosaic.TcCoe Idealize.ShloMosaic.StableHlo
open Cert.Spec

attribute [local irreducible] Words.bits Words.hash unif

/-- The kernel over the extended reals ends with its arguments as they were and no semaphore raised. -/
theorem ideal_frame : Cert.quiescent_KernelIdeal := fun m ρ _ => Cert.KernelIdeal.KV.arguments_kept m ρ

/-- What the reference's run leaves in memory, read from its arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v51)
            = after Cert.ReferenceIdeal.RV.ops (launchContents m c) (Proc.devRef .tc Cert.ReferenceIdeal.main_v51)
          ∧ r.2.mem ((c.tc : Thread Cert.ReferenceIdeal.nD Cert.ReferenceIdeal.τ).loc Cert.ReferenceIdeal.main_v12)
            = after Cert.ReferenceIdeal.RV.opsSoft (launchContents m c) (Proc.devRef .tc Cert.ReferenceIdeal.main_v12)
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono (fun _ h c =>
    have k := Cert.ReferenceIdeal.RV.kept (launchContents m c)
    ⟨h c _, (h c _).trans k.1, (h c _).trans k.2.1, (h c _).trans k.2.2⟩) (Cert.ReferenceIdeal.RV.run m ρ)

/-- The reference ends with its arguments as they were and no semaphore raised. -/
theorem reference_frame : Cert.quiescent_ReferenceIdeal := fun m ρ _ =>
  (θ_run _ _ _).mono (fun r h => ⟨fun c => ⟨(h c).2.2.1, (h c).2.2.2⟩, Idealize.ShloMosaic.sem_eq_zero_of_no_sems (by decide) r.2⟩)
    (reference_run m ρ)

/-- The two programs' mutated rows are the same. -/
theorem rows_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_one_hot_below_inf m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (after Cert.ReferenceIdeal.RV.ops (launchContents m' c) (Proc.devRef .tc Cert.ReferenceIdeal.main_v51)
      : IVec Cert.ReferenceIdeal.S8192x256 32) = Cert.KernelIdeal.KV.rows m c := by
  obtain ⟨⟨a, ha⟩, hy⟩ := Cert.Pre_one_hot_below_inf.decoded _ _ (hp c)
  obtain ⟨n, hn, hrows⟩ := Cert.KernelIdeal.KV.rows_eq m c a ha
  refine funext fun i => ?_
  rw [show i = ix2 (i 0) (i 1) from funext fun b => by
    match b with
    | ⟨0, _⟩ => rfl
    | ⟨1, _⟩ => rfl]
  refine (Cert.ReferenceIdeal.RV.mutated (launchContents m' c)
    (Cert.KernelIdeal.KV.logits (m ((c.tc : Thread Cert.KernelIdeal.nD Cert.KernelIdeal.τ).loc Cert.KernelIdeal.main_arg1)))
    (Cert.KernelIdeal.KV.logits_lt _ hy) (fun k => ?_) n hn a (fun t b => ?_) (i 0) (i 1)).trans (hrows (i 0) (i 1)).symm
  · exact (Cert.ReferenceIdeal.RV.logit_apply _ k).trans (congrArg scaled (congrFun h1 _))
  · exact (congrFun h0 _).trans (ha t b)

/-- The two programs' softmaxes are the same. -/
theorem softmax_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (after Cert.ReferenceIdeal.RV.opsSoft (launchContents m' c) (Proc.devRef .tc Cert.ReferenceIdeal.main_v12)
      : FVec Ideal Cert.ReferenceIdeal.S5120 .f32)
      = shapeCast Cert.KernelIdeal.S5120 (Cert.KernelIdeal.Gen.k0_pay2 (Cert.KernelIdeal.Gen.iblk m c 0 Cert.KernelIdeal.KV.p0))
          Cert.KernelIdeal.Gen.shapeCasts_S1x5120_S5120 := by
  refine funext fun i => ?_
  rw [show i = ix1 (i 0) from funext fun b => by
    match b with
    | ⟨0, _⟩ => rfl]
  refine Eq.trans ?_ (Cert.KernelIdeal.KV.softmax_eq m c (i 0)).symm
  refine (congrFun (Cert.ReferenceIdeal.RV.soft_eq _) _).trans ((Cert.ReferenceIdeal.RV.hostSoft_apply _ (i 0)).trans ?_)
  refine congrArg (fun s => soft s (i 0)) (funext fun k => ?_)
  exact (Cert.ReferenceIdeal.RV.logit_apply _ k).trans (congrArg scaled (congrFun h1 _))

/-- Over the extended reals, from arguments that are one-hot rows and numbers below +∞, the kernel and the reference end
    with the same mutated rows and the same softmax. -/
theorem same_results : Cert.algebraic_KernelIdeal_ReferenceIdeal_pre_one_hot_below_inf := fun m g m' g' hp hm =>
  ⟨fun c => Cert.KernelIdeal.KV.rows m c,
    fun c => shapeCast Cert.KernelIdeal.S5120 (Cert.KernelIdeal.Gen.k0_pay2 (Cert.KernelIdeal.Gen.iblk m c 0 Cert.KernelIdeal.KV.p0))
      Cert.KernelIdeal.Gen.shapeCasts_S1x5120_S5120,
    (θ_run _ _ _).mono (fun _ h c => ⟨(h.1 c).1, (h.1 c).2, h.2.1 c⟩)
      (θ_run_and (Cert.KernelIdeal.KV.results m g) (Cert.KernelIdeal.KV.arguments_kept m g)),
    (θ_run _ _ _).mono (fun _ h c => ⟨(h c).1.trans (rows_same m m' hp c (hm c).1 (hm c).2),
      (h c).2.1.trans (softmax_same m m' c (hm c).2), (h c).2.2⟩) (reference_run m' g')⟩

/-- Everything the certificate claims. -/
theorem claim : Cert.Claim :=
  ⟨Cert.Kernel.Gen.facts, Cert.KernelIdeal.Gen.facts, Cert.ReferenceIdeal.Gen.facts, Cert.Pre_one_hot_below_inf.facts,
    Cert.Kernel.KB.frame, ideal_frame, fun m g _ => ideal_frame m g trivial, reference_frame, fun m g _ => reference_frame m g trivial,
    IdealRules.named_const.statement Cert.KernelIdeal.κ "inv_temp" .f32 0x41200000#32 ((134217728 / 13421773 : ℝ) : EReal) rfl,
    same_results⟩

end Cert.Proof

end
